-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S128x2x4608 Cert.KernelIdeal.S128x1x4608
  ∧ IdealRules.bf16_pair.BufferStatement Cert.KernelIdeal.S72x2x1024 Cert.KernelIdeal.S72x1x1024
  ∧ IdealRules.bf16_pair.BufferStatement Cert.KernelIdeal.S2304x2x256 Cert.KernelIdeal.S2304x1x256
  ∧ IdealRules.bf16_pair.Statement Cert.KernelIdeal.S256x256 Cert.KernelIdeal.S128x256
  ∧ IdealRules.bf16_pair.Statement Cert.KernelIdeal.S128x2x256 Cert.KernelIdeal.S128x1x256
  ∧ IdealRules.bf16_pair.HalfStatement Cert.KernelIdeal.S72x256
  ∧ IdealRules.bf16_pair.Statement Cert.KernelIdeal.S72x2x256 Cert.KernelIdeal.S72x1x256
  ∧ IdealRules.bf16_pair.Statement Cert.KernelIdeal.S1x2x128 Cert.KernelIdeal.S1x1x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S128x2x4608 Cert.KernelIdeal.S128x1x4608
  ∧ IdealRules.bf16_pair.Statement Cert.KernelIdeal.S256x4608 Cert.KernelIdeal.S128x4608
  ∧ IdealRules.bf16_pair.Statement Cert.KernelIdeal.S2304x2x256 Cert.KernelIdeal.S2304x1x256
  ∧ IdealRules.bf16_pair.Statement Cert.KernelIdeal.S4608x256 Cert.KernelIdeal.S2304x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x4608 : Shape := ⟨3, ![256, 1, 4608]⟩
abbrev S2304x73728 : Shape := ⟨2, ![2304, 73728]⟩
abbrev S72x73728 : Shape := ⟨2, ![72, 73728]⟩
abbrev S72x288 : Shape := ⟨2, ![72, 288]⟩
abbrev S_ : Shape := ⟨0, ![]⟩
abbrev S16 : Shape := ⟨1, ![16]⟩
abbrev S16x1 : Shape := ⟨2, ![16, 1]⟩
abbrev S16x128 : Shape := ⟨2, ![16, 128]⟩
abbrev S72x72x4 : Shape := ⟨3, ![72, 72, 4]⟩
abbrev S1 : Shape := ⟨1, ![1]⟩
abbrev S256x4608 : Shape := ⟨2, ![256, 4608]⟩
abbrev S256x73728 : Shape := ⟨2, ![256, 73728]⟩
abbrev S2304x1024 : Shape := ⟨2, ![2304, 1024]⟩
abbrev S72x1024 : Shape := ⟨2, ![72, 1024]⟩
abbrev S1x72x4 : Shape := ⟨3, ![1, 72, 4]⟩
abbrev S256x1024 : Shape := ⟨2, ![256, 1024]⟩
abbrev S128x4608 : Shape := ⟨2, ![128, 4608]⟩
abbrev S2304x256 : Shape := ⟨2, ![2304, 256]⟩
abbrev S256x256 : Shape := ⟨2, ![256, 256]⟩
abbrev S128x256 : Shape := ⟨2, ![128, 256]⟩
abbrev S72x256 : Shape := ⟨2, ![72, 256]⟩
abbrev S1x72x1 : Shape := ⟨3, ![1, 72, 1]⟩
abbrev S72x1 : Shape := ⟨2, ![72, 1]⟩
abbrev S1x128 : Shape := ⟨2, ![1, 128]⟩
abbrev S8x128 : Shape := ⟨2, ![8, 128]⟩
abbrev S32x128 : Shape := ⟨2, ![32, 128]⟩
abbrev S16x128x1 : Shape := ⟨3, ![16, 128, 1]⟩
abbrev S4608x256 : Shape := ⟨2, ![4608, 256]⟩

abbrev nBuf : Space → Nat
  | .hbm => 13
  | .vmem => 13
  | .smem => 1
  | _ => 0

abbrev bufTy : (tb : Table) → Fin (tcTables nBuf tb) → BufTy
  | .hbm, ⟨0, _⟩ => ⟨S256x1x4608, .bf16⟩
  | .hbm, ⟨1, _⟩ => ⟨S2304x73728, .i8⟩
  | .hbm, ⟨2, _⟩ => ⟨S72x73728, .i8⟩
  | .hbm, ⟨3, _⟩ => ⟨S72x288, .f32⟩
  | .hbm, ⟨4, _⟩ => ⟨S_, .f32⟩
  | .hbm, ⟨5, _⟩ => ⟨S16, .bf16⟩
  | .hbm, ⟨6, _⟩ => ⟨S16x1, .bf16⟩
  | .hbm, ⟨7, _⟩ => ⟨S16x128, .bf16⟩
  | .hbm, ⟨8, _⟩ => ⟨S72x72x4, .f32⟩
  | .hbm, ⟨9, _⟩ => ⟨S72x72x4, .f32⟩
  | .hbm, ⟨10, _⟩ => ⟨S1, .f32⟩
  | .hbm, ⟨11, _⟩ => ⟨S256x4608, .bf16⟩
  | .hbm, ⟨12, _⟩ => ⟨S256x73728, .bf16⟩
  | .local _ .vmem, ⟨0, _⟩ => ⟨S256x4608, .bf16⟩
  | .local _ .vmem, ⟨1, _⟩ => ⟨S16x128, .bf16⟩
  | .local _ .vmem, ⟨2, _⟩ => ⟨S2304x1024, .i8⟩
  | .local _ .vmem, ⟨3, _⟩ => ⟨S2304x1024, .i8⟩
  | .local _ .vmem, ⟨4, _⟩ => ⟨S72x1024, .i8⟩
  | .local _ .vmem, ⟨5, _⟩ => ⟨S72x1024, .i8⟩
  | .local _ .vmem, ⟨6, _⟩ => ⟨S1x72x4, .f32⟩
  | .local _ .vmem, ⟨7, _⟩ => ⟨S1x72x4, .f32⟩
  | .local _ .vmem, ⟨8, _⟩ => ⟨S256x1024, .bf16⟩
  | .local _ .vmem, ⟨9, _⟩ => ⟨S256x1024, .bf16⟩
  | .local _ .vmem, ⟨10, _⟩ => ⟨S128x4608, .i32⟩
  | .local _ .vmem, ⟨11, _⟩ => ⟨S72x1024, .i32⟩
  | .local _ .vmem, ⟨12, _⟩ => ⟨S2304x256, .i32⟩
  | .local _ .smem, ⟨0, _⟩ => ⟨S1, .f32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![72], ![false]⟩

@[reducible] def k0_t1_loop : Scf.Loop 32 :=
  let c0_i32_31 : BitVec 32 := 0#32
  let c72_i32 : BitVec 32 := 72#32
  let v77 : BitVec 32 := Scalar.addi c0_i32_31 c72_i32
  let c1_i32 : BitVec 32 := 1#32
  ⟨c0_i32_31, v77, c1_i32⟩
def k0_off1 (k0_t1 : Fin k0_t1_loop.trips) : Fin 2 → Nat :=
  let c0_i32_31 : BitVec 32 := 0#32
  let c1_i32 : BitVec 32 := 1#32
  let arg11 : BitVec 32 := Scf.iv c0_i32_31 c1_i32 k0_t1
  let v113 : Index := Scalar.indexCast arg11
  let c0_88 : Index := 0#32
  ![v113.toNat, 0]
def k0_mult1 (k0_t1 : Fin k0_t1_loop.trips) : BitVec 32 :=
  let c32_i32 : BitVec 32 := 32#32
  let c0_i32_31 : BitVec 32 := 0#32
  let c1_i32 : BitVec 32 := 1#32
  let arg11 : BitVec 32 := Scf.iv c0_i32_31 c1_i32 k0_t1
  let v118 : BitVec 32 := Scalar.muli c32_i32 arg11
  v118
def k0_off2 (k0_t1 : Fin k0_t1_loop.trips) : Fin 2 → Nat :=
  let c32_i32 : BitVec 32 := 32#32
  let c0_i32_31 : BitVec 32 := 0#32
  let c1_i32 : BitVec 32 := 1#32
  let arg11 : BitVec 32 := Scf.iv c0_i32_31 c1_i32 k0_t1
  let v118 : BitVec 32 := Scalar.muli c32_i32 arg11
  let v119 : BitVec 32 := v118
  let v120 : Index := Scalar.indexCast v119
  let c0_89 : Index := 0#32
  ![v120.toNat, 0]
def k0_mult2 (k0_t1 : Fin k0_t1_loop.trips) : BitVec 32 :=
  let c32_i32_91 : BitVec 32 := 32#32
  let c0_i32_31 : BitVec 32 := 0#32
  let c1_i32 : BitVec 32 := 1#32
  let arg11 : BitVec 32 := Scf.iv c0_i32_31 c1_i32 k0_t1
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off3 (k0_t1 : Fin k0_t1_loop.trips) (c0_i32_92 : BitVec 32) (c0_i32_93 : BitVec 32) : Fin 2 → Nat :=
  let c32_i32_91 : BitVec 32 := 32#32
  let c0_i32_31 : BitVec 32 := 0#32
  let c1_i32 : BitVec 32 := 1#32
  let arg11 : BitVec 32 := Scf.iv c0_i32_31 c1_i32 k0_t1
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0]
def k0_mult3 (k0_t1 : Fin k0_t1_loop.trips) : BitVec 32 :=
  let c32_i32_95 : BitVec 32 := 32#32
  let c0_i32_31 : BitVec 32 := 0#32
  let c1_i32 : BitVec 32 := 1#32
  let arg11 : BitVec 32 := Scf.iv c0_i32_31 c1_i32 k0_t1
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult4 (k0_t1 : Fin k0_t1_loop.trips) : BitVec 32 :=
  let c32_i32_102 : BitVec 32 := 32#32
  let c0_i32_31 : BitVec 32 := 0#32
  let c1_i32 : BitVec 32 := 1#32
  let arg11 : BitVec 32 := Scf.iv c0_i32_31 c1_i32 k0_t1
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult5 (k0_t1 : Fin k0_t1_loop.trips) : BitVec 32 :=
  let c32_i32_105 : BitVec 32 := 32#32
  let c0_i32_31 : BitVec 32 := 0#32
  let c1_i32 : BitVec 32 := 1#32
  let arg11 : BitVec 32 := Scf.iv c0_i32_31 c1_i32 k0_t1
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t2_loop : Scf.Loop 32 :=
  let c0_i32_33 : BitVec 32 := 0#32
  let c72_i32_34 : BitVec 32 := 72#32
  let v78 : BitVec 32 := Scalar.addi c0_i32_33 c72_i32_34
  let c1_i32_35 : BitVec 32 := 1#32
  ⟨c0_i32_33, v78, c1_i32_35⟩
def k0_off4 (k0_t2 : Fin k0_t2_loop.trips) : Fin 2 → Nat :=
  let c0_i32_33 : BitVec 32 := 0#32
  let c1_i32_35 : BitVec 32 := 1#32
  let arg11 : BitVec 32 := Scf.iv c0_i32_33 c1_i32_35 k0_t2
  let v113 : Index := Scalar.indexCast arg11
  let c128 : Index := 128#32
  ![v113.toNat, 128]
def k0_mult6 (k0_t2 : Fin k0_t2_loop.trips) : BitVec 32 :=
  let c32_i32 : BitVec 32 := 32#32
  let c0_i32_33 : BitVec 32 := 0#32
  let c1_i32_35 : BitVec 32 := 1#32
  let arg11 : BitVec 32 := Scf.iv c0_i32_33 c1_i32_35 k0_t2
  let v118 : BitVec 32 := Scalar.muli c32_i32 arg11
  v118
def k0_off5 (k0_t2 : Fin k0_t2_loop.trips) : Fin 2 → Nat :=
  let c32_i32 : BitVec 32 := 32#32
  let c0_i32_33 : BitVec 32 := 0#32
  let c1_i32_35 : BitVec 32 := 1#32
  let arg11 : BitVec 32 := Scf.iv c0_i32_33 c1_i32_35 k0_t2
  let v118 : BitVec 32 := Scalar.muli c32_i32 arg11
  let v119 : BitVec 32 := v118
  let v120 : Index := Scalar.indexCast v119
  let c128_88 : Index := 128#32
  ![v120.toNat, 128]
def k0_mult7 (k0_t2 : Fin k0_t2_loop.trips) : BitVec 32 :=
  let c32_i32_90 : BitVec 32 := 32#32
  let c0_i32_33 : BitVec 32 := 0#32
  let c1_i32_35 : BitVec 32 := 1#32
  let arg11 : BitVec 32 := Scf.iv c0_i32_33 c1_i32_35 k0_t2
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off6 (k0_t2 : Fin k0_t2_loop.trips) (c0_i32_91 : BitVec 32) (c0_i32_92 : BitVec 32) : Fin 2 → Nat :=
  let c32_i32_90 : BitVec 32 := 32#32
  let c0_i32_33 : BitVec 32 := 0#32
  let c1_i32_35 : BitVec 32 := 1#32
  let arg11 : BitVec 32 := Scf.iv c0_i32_33 c1_i32_35 k0_t2
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128_93 : Index := 128#32
  ![v138.toNat, 128]
def k0_mult8 (k0_t2 : Fin k0_t2_loop.trips) : BitVec 32 :=
  let c32_i32_94 : BitVec 32 := 32#32
  let c0_i32_33 : BitVec 32 := 0#32
  let c1_i32_35 : BitVec 32 := 1#32
  let arg11 : BitVec 32 := Scf.iv c0_i32_33 c1_i32_35 k0_t2
  let v145 : BitVec 32 := Scalar.muli c32_i32_94 arg11
  let c16_i32_95 : BitVec 32 := 16#32
  let v146 : BitVec 32 := Scalar.addi v145 c16_i32_95
  let c0_i32_96 : BitVec 32 := 0#32
  let v147 : BitVec 32 := Scalar.addi v146 c0_i32_96
  v147
def k0_mult9 (k0_t2 : Fin k0_t2_loop.trips) : BitVec 32 :=
  let c32_i32_101 : BitVec 32 := 32#32
  let c0_i32_33 : BitVec 32 := 0#32
  let c1_i32_35 : BitVec 32 := 1#32
  let arg11 : BitVec 32 := Scf.iv c0_i32_33 c1_i32_35 k0_t2
  let v165 : BitVec 32 := Scalar.muli c32_i32_101 arg11
  let c0_i32_102 : BitVec 32 := 0#32
  let v166 : BitVec 32 := Scalar.addi v165 c0_i32_102
  let c8_i32 : BitVec 32 := 8#32
  let v167 : BitVec 32 := Scalar.addi v166 c8_i32
  v167
def k0_mult10 (k0_t2 : Fin k0_t2_loop.trips) : BitVec 32 :=
  let c32_i32_104 : BitVec 32 := 32#32
  let c0_i32_33 : BitVec 32 := 0#32
  let c1_i32_35 : BitVec 32 := 1#32
  let arg11 : BitVec 32 := Scf.iv c0_i32_33 c1_i32_35 k0_t2
  let v177 : BitVec 32 := Scalar.muli c32_i32_104 arg11
  let c16_i32_105 : BitVec 32 := 16#32
  let v178 : BitVec 32 := Scalar.addi v177 c16_i32_105
  let c8_i32_106 : BitVec 32 := 8#32
  let v179 : BitVec 32 := Scalar.addi v178 c8_i32_106
  v179
@[reducible] def k0_t3_loop : Scf.Loop 32 :=
  let c0_i32_43 : BitVec 32 := 0#32
  let c72_i32_44 : BitVec 32 := 72#32
  let v86 : BitVec 32 := Scalar.addi c0_i32_43 c72_i32_44
  let c1_i32_45 : BitVec 32 := 1#32
  ⟨c0_i32_43, v86, c1_i32_45⟩
def k0_off7 (k0_t3 : Fin k0_t3_loop.trips) : Fin 2 → Nat :=
  let c0_i32_43 : BitVec 32 := 0#32
  let c1_i32_45 : BitVec 32 := 1#32
  let arg11 : BitVec 32 := Scf.iv c0_i32_43 c1_i32_45 k0_t3
  let v113 : Index := Scalar.indexCast arg11
  let c256_88 : Index := 256#32
  ![v113.toNat, 256]
def k0_mult11 (k0_t3 : Fin k0_t3_loop.trips) : BitVec 32 :=
  let c32_i32 : BitVec 32 := 32#32
  let c0_i32_43 : BitVec 32 := 0#32
  let c1_i32_45 : BitVec 32 := 1#32
  let arg11 : BitVec 32 := Scf.iv c0_i32_43 c1_i32_45 k0_t3
  let v118 : BitVec 32 := Scalar.muli c32_i32 arg11
  v118
def k0_off8 (k0_t3 : Fin k0_t3_loop.trips) : Fin 2 → Nat :=
  let c32_i32 : BitVec 32 := 32#32
  let c0_i32_43 : BitVec 32 := 0#32
  let c1_i32_45 : BitVec 32 := 1#32
  let arg11 : BitVec 32 := Scf.iv c0_i32_43 c1_i32_45 k0_t3
  let v118 : BitVec 32 := Scalar.muli c32_i32 arg11
  let v119 : BitVec 32 := v118
  let v120 : Index := Scalar.indexCast v119
  let c256_89 : Index := 256#32
  ![v120.toNat, 256]
def k0_mult12 (k0_t3 : Fin k0_t3_loop.trips) : BitVec 32 :=
  let c32_i32_91 : BitVec 32 := 32#32
  let c0_i32_43 : BitVec 32 := 0#32
  let c1_i32_45 : BitVec 32 := 1#32
  let arg11 : BitVec 32 := Scf.iv c0_i32_43 c1_i32_45 k0_t3
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off9 (k0_t3 : Fin k0_t3_loop.trips) (c0_i32_92 : BitVec 32) (c0_i32_93 : BitVec 32) : Fin 2 → Nat :=
  let c32_i32_91 : BitVec 32 := 32#32
  let c0_i32_43 : BitVec 32 := 0#32
  let c1_i32_45 : BitVec 32 := 1#32
  let arg11 : BitVec 32 := Scf.iv c0_i32_43 c1_i32_45 k0_t3
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0]
def k0_mult13 (k0_t3 : Fin k0_t3_loop.trips) : BitVec 32 :=
  let c32_i32_95 : BitVec 32 := 32#32
  let c0_i32_43 : BitVec 32 := 0#32
  let c1_i32_45 : BitVec 32 := 1#32
  let arg11 : BitVec 32 := Scf.iv c0_i32_43 c1_i32_45 k0_t3
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult14 (k0_t3 : Fin k0_t3_loop.trips) : BitVec 32 :=
  let c32_i32_102 : BitVec 32 := 32#32
  let c0_i32_43 : BitVec 32 := 0#32
  let c1_i32_45 : BitVec 32 := 1#32
  let arg11 : BitVec 32 := Scf.iv c0_i32_43 c1_i32_45 k0_t3
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult15 (k0_t3 : Fin k0_t3_loop.trips) : BitVec 32 :=
  let c32_i32_105 : BitVec 32 := 32#32
  let c0_i32_43 : BitVec 32 := 0#32
  let c1_i32_45 : BitVec 32 := 1#32
  let arg11 : BitVec 32 := Scf.iv c0_i32_43 c1_i32_45 k0_t3
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t4_loop : Scf.Loop 32 :=
  let c0_i32_47 : BitVec 32 := 0#32
  let c72_i32_48 : BitVec 32 := 72#32
  let v87 : BitVec 32 := Scalar.addi c0_i32_47 c72_i32_48
  let c1_i32_49 : BitVec 32 := 1#32
  ⟨c0_i32_47, v87, c1_i32_49⟩
def k0_off10 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v113 : Index := Scalar.indexCast arg11
  let c384 : Index := 384#32
  ![v113.toNat, 384]
def k0_mult16 (k0_t4 : Fin k0_t4_loop.trips) : BitVec 32 :=
  let c32_i32 : BitVec 32 := 32#32
  let c0_i32_47 : BitVec 32 := 0#32
  let c1_i32_49 : BitVec 32 := 1#32
  let arg11 : BitVec 32 := Scf.iv c0_i32_47 c1_i32_49 k0_t4
  let v118 : BitVec 32 := Scalar.muli c32_i32 arg11
  v118
def k0_off11 (k0_t4 : Fin k0_t4_loop.trips) : Fin 2 → Nat :=
  let c32_i32 : BitVec 32 := 32#32
  let c0_i32_47 : BitVec 32 := 0#32
  let c1_i32_49 : BitVec 32 := 1#32
  let arg11 : BitVec 32 := Scf.iv c0_i32_47 c1_i32_49 k0_t4
  let v118 : BitVec 32 := Scalar.muli c32_i32 arg11
  let v119 : BitVec 32 := v118
  let v120 : Index := Scalar.indexCast v119
  let c384_88 : Index := 384#32
  ![v120.toNat, 384]
def k0_mult17 (k0_t4 : Fin k0_t4_loop.trips) : BitVec 32 :=
  let c32_i32_90 : BitVec 32 := 32#32
  let c0_i32_47 : BitVec 32 := 0#32
  let c1_i32_49 : BitVec 32 := 1#32
  let arg11 : BitVec 32 := Scf.iv c0_i32_47 c1_i32_49 k0_t4
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off12 (k0_t4 : Fin k0_t4_loop.trips) (c0_i32_91 : BitVec 32) (c0_i32_92 : BitVec 32) : Fin 2 → Nat :=
  let c32_i32_90 : BitVec 32 := 32#32
  let c0_i32_47 : BitVec 32 := 0#32
  let c1_i32_49 : BitVec 32 := 1#32
  let arg11 : BitVec 32 := Scf.iv c0_i32_47 c1_i32_49 k0_t4
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 128]
def k0_mult18 (k0_t4 : Fin k0_t4_loop.trips) : BitVec 32 :=
  let c32_i32_93 : BitVec 32 := 32#32
  let c0_i32_47 : BitVec 32 := 0#32
  let c1_i32_49 : BitVec 32 := 1#32
  let arg11 : BitVec 32 := Scf.iv c0_i32_47 c1_i32_49 k0_t4
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult19 (k0_t4 : Fin k0_t4_loop.trips) : BitVec 32 :=
  let c32_i32_100 : BitVec 32 := 32#32
  let c0_i32_47 : BitVec 32 := 0#32
  let c1_i32_49 : BitVec 32 := 1#32
  let arg11 : BitVec 32 := Scf.iv c0_i32_47 c1_i32_49 k0_t4
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult20 (k0_t4 : Fin k0_t4_loop.trips) : BitVec 32 :=
  let c32_i32_103 : BitVec 32 := 32#32
  let c0_i32_47 : BitVec 32 := 0#32
  let c1_i32_49 : BitVec 32 := 1#32
  let arg11 : BitVec 32 := Scf.iv c0_i32_47 c1_i32_49 k0_t4
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
@[reducible] def k0_t5_loop : Scf.Loop 32 :=
  let c0_i32_58 : BitVec 32 := 0#32
  let c72_i32_59 : BitVec 32 := 72#32
  let v95 : BitVec 32 := Scalar.addi c0_i32_58 c72_i32_59
  let c1_i32_60 : BitVec 32 := 1#32
  ⟨c0_i32_58, v95, c1_i32_60⟩
def k0_off13 (k0_t5 : Fin k0_t5_loop.trips) : Fin 2 → Nat :=
  let c0_i32_58 : BitVec 32 := 0#32
  let c1_i32_60 : BitVec 32 := 1#32
  let arg11 : BitVec 32 := Scf.iv c0_i32_58 c1_i32_60 k0_t5
  let v113 : Index := Scalar.indexCast arg11
  let c512_88 : Index := 512#32
  ![v113.toNat, 512]
def k0_mult21 (k0_t5 : Fin k0_t5_loop.trips) : BitVec 32 :=
  let c32_i32 : BitVec 32 := 32#32
  let c0_i32_58 : BitVec 32 := 0#32
  let c1_i32_60 : BitVec 32 := 1#32
  let arg11 : BitVec 32 := Scf.iv c0_i32_58 c1_i32_60 k0_t5
  let v118 : BitVec 32 := Scalar.muli c32_i32 arg11
  v118
def k0_off14 (k0_t5 : Fin k0_t5_loop.trips) : Fin 2 → Nat :=
  let c32_i32 : BitVec 32 := 32#32
  let c0_i32_58 : BitVec 32 := 0#32
  let c1_i32_60 : BitVec 32 := 1#32
  let arg11 : BitVec 32 := Scf.iv c0_i32_58 c1_i32_60 k0_t5
  let v118 : BitVec 32 := Scalar.muli c32_i32 arg11
  let v119 : BitVec 32 := v118
  let v120 : Index := Scalar.indexCast v119
  let c512_89 : Index := 512#32
  ![v120.toNat, 512]
def k0_mult22 (k0_t5 : Fin k0_t5_loop.trips) : BitVec 32 :=
  let c32_i32_91 : BitVec 32 := 32#32
  let c0_i32_58 : BitVec 32 := 0#32
  let c1_i32_60 : BitVec 32 := 1#32
  let arg11 : BitVec 32 := Scf.iv c0_i32_58 c1_i32_60 k0_t5
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off15 (k0_t5 : Fin k0_t5_loop.trips) (c0_i32_92 : BitVec 32) (c0_i32_93 : BitVec 32) : Fin 2 → Nat :=
  let c32_i32_91 : BitVec 32 := 32#32
  let c0_i32_58 : BitVec 32 := 0#32
  let c1_i32_60 : BitVec 32 := 1#32
  let arg11 : BitVec 32 := Scf.iv c0_i32_58 c1_i32_60 k0_t5
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0]
def k0_mult23 (k0_t5 : Fin k0_t5_loop.trips) : BitVec 32 :=
  let c32_i32_95 : BitVec 32 := 32#32
  let c0_i32_58 : BitVec 32 := 0#32
  let c1_i32_60 : BitVec 32 := 1#32
  let arg11 : BitVec 32 := Scf.iv c0_i32_58 c1_i32_60 k0_t5
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult24 (k0_t5 : Fin k0_t5_loop.trips) : BitVec 32 :=
  let c32_i32_102 : BitVec 32 := 32#32
  let c0_i32_58 : BitVec 32 := 0#32
  let c1_i32_60 : BitVec 32 := 1#32
  let arg11 : BitVec 32 := Scf.iv c0_i32_58 c1_i32_60 k0_t5
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult25 (k0_t5 : Fin k0_t5_loop.trips) : BitVec 32 :=
  let c32_i32_105 : BitVec 32 := 32#32
  let c0_i32_58 : BitVec 32 := 0#32
  let c1_i32_60 : BitVec 32 := 1#32
  let arg11 : BitVec 32 := Scf.iv c0_i32_58 c1_i32_60 k0_t5
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t6_loop : Scf.Loop 32 :=
  let c0_i32_62 : BitVec 32 := 0#32
  let c72_i32_63 : BitVec 32 := 72#32
  let v96 : BitVec 32 := Scalar.addi c0_i32_62 c72_i32_63
  let c1_i32_64 : BitVec 32 := 1#32
  ⟨c0_i32_62, v96, c1_i32_64⟩
def k0_off16 (k0_t6 : Fin k0_t6_loop.trips) : Fin 2 → Nat :=
  let c0_i32_62 : BitVec 32 := 0#32
  let c1_i32_64 : BitVec 32 := 1#32
  let arg11 : BitVec 32 := Scf.iv c0_i32_62 c1_i32_64 k0_t6
  let v113 : Index := Scalar.indexCast arg11
  let c640 : Index := 640#32
  ![v113.toNat, 640]
def k0_mult26 (k0_t6 : Fin k0_t6_loop.trips) : BitVec 32 :=
  let c32_i32 : BitVec 32 := 32#32
  let c0_i32_62 : BitVec 32 := 0#32
  let c1_i32_64 : BitVec 32 := 1#32
  let arg11 : BitVec 32 := Scf.iv c0_i32_62 c1_i32_64 k0_t6
  let v118 : BitVec 32 := Scalar.muli c32_i32 arg11
  v118
def k0_off17 (k0_t6 : Fin k0_t6_loop.trips) : Fin 2 → Nat :=
  let c32_i32 : BitVec 32 := 32#32
  let c0_i32_62 : BitVec 32 := 0#32
  let c1_i32_64 : BitVec 32 := 1#32
  let arg11 : BitVec 32 := Scf.iv c0_i32_62 c1_i32_64 k0_t6
  let v118 : BitVec 32 := Scalar.muli c32_i32 arg11
  let v119 : BitVec 32 := v118
  let v120 : Index := Scalar.indexCast v119
  let c640_88 : Index := 640#32
  ![v120.toNat, 640]
def k0_mult27 (k0_t6 : Fin k0_t6_loop.trips) : BitVec 32 :=
  let c32_i32_90 : BitVec 32 := 32#32
  let c0_i32_62 : BitVec 32 := 0#32
  let c1_i32_64 : BitVec 32 := 1#32
  let arg11 : BitVec 32 := Scf.iv c0_i32_62 c1_i32_64 k0_t6
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off18 (k0_t6 : Fin k0_t6_loop.trips) (c0_i32_91 : BitVec 32) (c0_i32_92 : BitVec 32) : Fin 2 → Nat :=
  let c32_i32_90 : BitVec 32 := 32#32
  let c0_i32_62 : BitVec 32 := 0#32
  let c1_i32_64 : BitVec 32 := 1#32
  let arg11 : BitVec 32 := Scf.iv c0_i32_62 c1_i32_64 k0_t6
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 128]
def k0_mult28 (k0_t6 : Fin k0_t6_loop.trips) : BitVec 32 :=
  let c32_i32_93 : BitVec 32 := 32#32
  let c0_i32_62 : BitVec 32 := 0#32
  let c1_i32_64 : BitVec 32 := 1#32
  let arg11 : BitVec 32 := Scf.iv c0_i32_62 c1_i32_64 k0_t6
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult29 (k0_t6 : Fin k0_t6_loop.trips) : BitVec 32 :=
  let c32_i32_100 : BitVec 32 := 32#32
  let c0_i32_62 : BitVec 32 := 0#32
  let c1_i32_64 : BitVec 32 := 1#32
  let arg11 : BitVec 32 := Scf.iv c0_i32_62 c1_i32_64 k0_t6
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult30 (k0_t6 : Fin k0_t6_loop.trips) : BitVec 32 :=
  let c32_i32_103 : BitVec 32 := 32#32
  let c0_i32_62 : BitVec 32 := 0#32
  let c1_i32_64 : BitVec 32 := 1#32
  let arg11 : BitVec 32 := Scf.iv c0_i32_62 c1_i32_64 k0_t6
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
@[reducible] def k0_t7_loop : Scf.Loop 32 :=
  let c0_i32_73 : BitVec 32 := 0#32
  let c72_i32_74 : BitVec 32 := 72#32
  let v104 : BitVec 32 := Scalar.addi c0_i32_73 c72_i32_74
  let c1_i32_75 : BitVec 32 := 1#32
  ⟨c0_i32_73, v104, c1_i32_75⟩
def k0_off19 (k0_t7 : Fin k0_t7_loop.trips) : Fin 2 → Nat :=
  let c0_i32_73 : BitVec 32 := 0#32
  let c1_i32_75 : BitVec 32 := 1#32
  let arg11 : BitVec 32 := Scf.iv c0_i32_73 c1_i32_75 k0_t7
  let v113 : Index := Scalar.indexCast arg11
  let c768_88 : Index := 768#32
  ![v113.toNat, 768]
def k0_mult31 (k0_t7 : Fin k0_t7_loop.trips) : BitVec 32 :=
  let c32_i32 : BitVec 32 := 32#32
  let c0_i32_73 : BitVec 32 := 0#32
  let c1_i32_75 : BitVec 32 := 1#32
  let arg11 : BitVec 32 := Scf.iv c0_i32_73 c1_i32_75 k0_t7
  let v118 : BitVec 32 := Scalar.muli c32_i32 arg11
  v118
def k0_off20 (k0_t7 : Fin k0_t7_loop.trips) : Fin 2 → Nat :=
  let c32_i32 : BitVec 32 := 32#32
  let c0_i32_73 : BitVec 32 := 0#32
  let c1_i32_75 : BitVec 32 := 1#32
  let arg11 : BitVec 32 := Scf.iv c0_i32_73 c1_i32_75 k0_t7
  let v118 : BitVec 32 := Scalar.muli c32_i32 arg11
  let v119 : BitVec 32 := v118
  let v120 : Index := Scalar.indexCast v119
  let c768_89 : Index := 768#32
  ![v120.toNat, 768]
def k0_mult32 (k0_t7 : Fin k0_t7_loop.trips) : BitVec 32 :=
  let c32_i32_91 : BitVec 32 := 32#32
  let c0_i32_73 : BitVec 32 := 0#32
  let c1_i32_75 : BitVec 32 := 1#32
  let arg11 : BitVec 32 := Scf.iv c0_i32_73 c1_i32_75 k0_t7
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off21 (k0_t7 : Fin k0_t7_loop.trips) (c0_i32_92 : BitVec 32) (c0_i32_93 : BitVec 32) : Fin 2 → Nat :=
  let c32_i32_91 : BitVec 32 := 32#32
  let c0_i32_73 : BitVec 32 := 0#32
  let c1_i32_75 : BitVec 32 := 1#32
  let arg11 : BitVec 32 := Scf.iv c0_i32_73 c1_i32_75 k0_t7
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0]
def k0_mult33 (k0_t7 : Fin k0_t7_loop.trips) : BitVec 32 :=
  let c32_i32_95 : BitVec 32 := 32#32
  let c0_i32_73 : BitVec 32 := 0#32
  let c1_i32_75 : BitVec 32 := 1#32
  let arg11 : BitVec 32 := Scf.iv c0_i32_73 c1_i32_75 k0_t7
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult34 (k0_t7 : Fin k0_t7_loop.trips) : BitVec 32 :=
  let c32_i32_102 : BitVec 32 := 32#32
  let c0_i32_73 : BitVec 32 := 0#32
  let c1_i32_75 : BitVec 32 := 1#32
  let arg11 : BitVec 32 := Scf.iv c0_i32_73 c1_i32_75 k0_t7
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult35 (k0_t7 : Fin k0_t7_loop.trips) : BitVec 32 :=
  let c32_i32_105 : BitVec 32 := 32#32
  let c0_i32_73 : BitVec 32 := 0#32
  let c1_i32_75 : BitVec 32 := 1#32
  let arg11 : BitVec 32 := Scf.iv c0_i32_73 c1_i32_75 k0_t7
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t8_loop : Scf.Loop 32 :=
  let c0_i32_77 : BitVec 32 := 0#32
  let c72_i32_78 : BitVec 32 := 72#32
  let v105 : BitVec 32 := Scalar.addi c0_i32_77 c72_i32_78
  let c1_i32_79 : BitVec 32 := 1#32
  ⟨c0_i32_77, v105, c1_i32_79⟩
def k0_off22 (k0_t8 : Fin k0_t8_loop.trips) : Fin 2 → Nat :=
  let c0_i32_77 : BitVec 32 := 0#32
  let c1_i32_79 : BitVec 32 := 1#32
  let arg11 : BitVec 32 := Scf.iv c0_i32_77 c1_i32_79 k0_t8
  let v113 : Index := Scalar.indexCast arg11
  let c896 : Index := 896#32
  ![v113.toNat, 896]
def k0_mult36 (k0_t8 : Fin k0_t8_loop.trips) : BitVec 32 :=
  let c32_i32 : BitVec 32 := 32#32
  let c0_i32_77 : BitVec 32 := 0#32
  let c1_i32_79 : BitVec 32 := 1#32
  let arg11 : BitVec 32 := Scf.iv c0_i32_77 c1_i32_79 k0_t8
  let v118 : BitVec 32 := Scalar.muli c32_i32 arg11
  v118
def k0_off23 (k0_t8 : Fin k0_t8_loop.trips) : Fin 2 → Nat :=
  let c32_i32 : BitVec 32 := 32#32
  let c0_i32_77 : BitVec 32 := 0#32
  let c1_i32_79 : BitVec 32 := 1#32
  let arg11 : BitVec 32 := Scf.iv c0_i32_77 c1_i32_79 k0_t8
  let v118 : BitVec 32 := Scalar.muli c32_i32 arg11
  let v119 : BitVec 32 := v118
  let v120 : Index := Scalar.indexCast v119
  let c896_88 : Index := 896#32
  ![v120.toNat, 896]
def k0_mult37 (k0_t8 : Fin k0_t8_loop.trips) : BitVec 32 :=
  let c32_i32_90 : BitVec 32 := 32#32
  let c0_i32_77 : BitVec 32 := 0#32
  let c1_i32_79 : BitVec 32 := 1#32
  let arg11 : BitVec 32 := Scf.iv c0_i32_77 c1_i32_79 k0_t8
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off24 (k0_t8 : Fin k0_t8_loop.trips) (c0_i32_91 : BitVec 32) (c0_i32_92 : BitVec 32) : Fin 2 → Nat :=
  let c32_i32_90 : BitVec 32 := 32#32
  let c0_i32_77 : BitVec 32 := 0#32
  let c1_i32_79 : BitVec 32 := 1#32
  let arg11 : BitVec 32 := Scf.iv c0_i32_77 c1_i32_79 k0_t8
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 128]
def k0_mult38 (k0_t8 : Fin k0_t8_loop.trips) : BitVec 32 :=
  let c32_i32_93 : BitVec 32 := 32#32
  let c0_i32_77 : BitVec 32 := 0#32
  let c1_i32_79 : BitVec 32 := 1#32
  let arg11 : BitVec 32 := Scf.iv c0_i32_77 c1_i32_79 k0_t8
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult39 (k0_t8 : Fin k0_t8_loop.trips) : BitVec 32 :=
  let c32_i32_100 : BitVec 32 := 32#32
  let c0_i32_77 : BitVec 32 := 0#32
  let c1_i32_79 : BitVec 32 := 1#32
  let arg11 : BitVec 32 := Scf.iv c0_i32_77 c1_i32_79 k0_t8
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult40 (k0_t8 : Fin k0_t8_loop.trips) : BitVec 32 :=
  let c32_i32_103 : BitVec 32 := 32#32
  let c0_i32_77 : BitVec 32 := 0#32
  let c1_i32_79 : BitVec 32 := 1#32
  let arg11 : BitVec 32 := Scf.iv c0_i32_77 c1_i32_79 k0_t8
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2304x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S72x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x72x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S256x1x4608 : Shape := ⟨3, ![256, 1, 4608]⟩
abbrev S2304x73728 : Shape := ⟨2, ![2304, 73728]⟩
abbrev S72x73728 : Shape := ⟨2, ![72, 73728]⟩
abbrev S72x288 : Shape := ⟨2, ![72, 288]⟩
abbrev S_ : Shape := ⟨0, ![]⟩
abbrev S16 : Shape := ⟨1, ![16]⟩
abbrev S16x1 : Shape := ⟨2, ![16, 1]⟩
abbrev S16x128 : Shape := ⟨2, ![16, 128]⟩
abbrev S72x72x4 : Shape := ⟨3, ![72, 72, 4]⟩
abbrev S1 : Shape := ⟨1, ![1]⟩
abbrev S256x4608 : Shape := ⟨2, ![256, 4608]⟩
abbrev S256x73728 : Shape := ⟨2, ![256, 73728]⟩
abbrev S2304x1024 : Shape := ⟨2, ![2304, 1024]⟩
abbrev S72x1024 : Shape := ⟨2, ![72, 1024]⟩
abbrev S1x72x4 : Shape := ⟨3, ![1, 72, 4]⟩
abbrev S256x1024 : Shape := ⟨2, ![256, 1024]⟩
abbrev S128x4608 : Shape := ⟨2, ![128, 4608]⟩
abbrev S128x2x4608 : Shape := ⟨3, ![128, 2, 4608]⟩
abbrev S128x1x4608 : Shape := ⟨3, ![128, 1, 4608]⟩
abbrev S72x2x1024 : Shape := ⟨3, ![72, 2, 1024]⟩
abbrev S72x1x1024 : Shape := ⟨3, ![72, 1, 1024]⟩
abbrev S2304x256 : Shape := ⟨2, ![2304, 256]⟩
abbrev S2304x2x256 : Shape := ⟨3, ![2304, 2, 256]⟩
abbrev S2304x1x256 : Shape := ⟨3, ![2304, 1, 256]⟩
abbrev S256x256 : Shape := ⟨2, ![256, 256]⟩
abbrev S128x256 : Shape := ⟨2, ![128, 256]⟩
abbrev S128x2x256 : Shape := ⟨3, ![128, 2, 256]⟩
abbrev S128x1x256 : Shape := ⟨3, ![128, 1, 256]⟩
abbrev S72x256 : Shape := ⟨2, ![72, 256]⟩
abbrev S1x72x1 : Shape := ⟨3, ![1, 72, 1]⟩
abbrev S72x1 : Shape := ⟨2, ![72, 1]⟩
abbrev S72x2x256 : Shape := ⟨3, ![72, 2, 256]⟩
abbrev S72x1x256 : Shape := ⟨3, ![72, 1, 256]⟩
abbrev S1x128 : Shape := ⟨2, ![1, 128]⟩
abbrev S1x2x128 : Shape := ⟨3, ![1, 2, 128]⟩
abbrev S1x1x128 : Shape := ⟨3, ![1, 1, 128]⟩
abbrev S8x128 : Shape := ⟨2, ![8, 128]⟩
abbrev S32x128 : Shape := ⟨2, ![32, 128]⟩
abbrev S16x128x1 : Shape := ⟨3, ![16, 128, 1]⟩
abbrev S8x2x128 : Shape := ⟨3, ![8, 2, 128]⟩
abbrev S8x1x128 : Shape := ⟨3, ![8, 1, 128]⟩
abbrev S4608x256 : Shape := ⟨2, ![4608, 256]⟩

abbrev nBuf : Space → Nat
  | .hbm => 13
  | .vmem => 13
  | .smem => 1
  | _ => 0

abbrev bufTy : (tb : Table) → Fin (tcTables nBuf tb) → BufTy
  | .hbm, ⟨0, _⟩ => ⟨S256x1x4608, .bf16⟩
  | .hbm, ⟨1, _⟩ => ⟨S2304x73728, .i8⟩
  | .hbm, ⟨2, _⟩ => ⟨S72x73728, .i8⟩
  | .hbm, ⟨3, _⟩ => ⟨S72x288, .f32⟩
  | .hbm, ⟨4, _⟩ => ⟨S_, .f32⟩
  | .hbm, ⟨5, _⟩ => ⟨S16, .bf16⟩
  | .hbm, ⟨6, _⟩ => ⟨S16x1, .bf16⟩
  | .hbm, ⟨7, _⟩ => ⟨S16x128, .bf16⟩
  | .hbm, ⟨8, _⟩ => ⟨S72x72x4, .f32⟩
  | .hbm, ⟨9, _⟩ => ⟨S72x72x4, .f32⟩
  | .hbm, ⟨10, _⟩ => ⟨S1, .f32⟩
  | .hbm, ⟨11, _⟩ => ⟨S256x4608, .bf16⟩
  | .hbm, ⟨12, _⟩ => ⟨S256x73728, .bf16⟩
  | .local _ .vmem, ⟨0, _⟩ => ⟨S256x4608, .bf16⟩
  | .local _ .vmem, ⟨1, _⟩ => ⟨S16x128, .bf16⟩
  | .local _ .vmem, ⟨2, _⟩ => ⟨S2304x1024, .i8⟩
  | .local _ .vmem, ⟨3, _⟩ => ⟨S2304x1024, .i8⟩
  | .local _ .vmem, ⟨4, _⟩ => ⟨S72x1024, .i8⟩
  | .local _ .vmem, ⟨5, _⟩ => ⟨S72x1024, .i8⟩
  | .local _ .vmem, ⟨6, _⟩ => ⟨S1x72x4, .f32⟩
  | .local _ .vmem, ⟨7, _⟩ => ⟨S1x72x4, .f32⟩
  | .local _ .vmem, ⟨8, _⟩ => ⟨S256x1024, .bf16⟩
  | .local _ .vmem, ⟨9, _⟩ => ⟨S256x1024, .bf16⟩
  | .local _ .vmem, ⟨10, _⟩ => ⟨S128x2x4608, .bf16⟩
  | .local _ .vmem, ⟨11, _⟩ => ⟨S72x2x1024, .bf16⟩
  | .local _ .vmem, ⟨12, _⟩ => ⟨S2304x2x256, .bf16⟩
  | .local _ .smem, ⟨0, _⟩ => ⟨S1, .f32⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32_31 : BitVec 32 := 0#32
  let c72_i32 : BitVec 32 := 72#32
  let v77 : BitVec 32 := Scalar.addi c0_i32_31 c72_i32
  let c1_i32 : BitVec 32 := 1#32
  ⟨c0_i32_31, v77, c1_i32⟩
def k0_off1 (k0_t1 : Fin k0_t1_loop.trips) : Fin 3 → Nat :=
  let c0_i32_31 : BitVec 32 := 0#32
  let c1_i32 : BitVec 32 := 1#32
  let arg11 : BitVec 32 := Scf.iv c0_i32_31 c1_i32 k0_t1
  let v113 : Index := Scalar.indexCast arg11
  let c0_88 : Index := 0#32
  ![v113.toNat, 0, 0]
def k0_mult1 (k0_t1 : Fin k0_t1_loop.trips) : BitVec 32 :=
  let c32_i32 : BitVec 32 := 32#32
  let c0_i32_31 : BitVec 32 := 0#32
  let c1_i32 : BitVec 32 := 1#32
  let arg11 : BitVec 32 := Scf.iv c0_i32_31 c1_i32 k0_t1
  let v118 : BitVec 32 := Scalar.muli c32_i32 arg11
  v118
def k0_off2 (k0_t1 : Fin k0_t1_loop.trips) : Fin 2 → Nat :=
  let c32_i32 : BitVec 32 := 32#32
  let c0_i32_31 : BitVec 32 := 0#32
  let c1_i32 : BitVec 32 := 1#32
  let arg11 : BitVec 32 := Scf.iv c0_i32_31 c1_i32 k0_t1
  let v118 : BitVec 32 := Scalar.muli c32_i32 arg11
  let v119 : BitVec 32 := v118
  let v120 : Index := Scalar.indexCast v119
  let c0_89 : Index := 0#32
  ![v120.toNat, 0]
def k0_mult2 (k0_t1 : Fin k0_t1_loop.trips) : BitVec 32 :=
  let c32_i32_91 : BitVec 32 := 32#32
  let c0_i32_31 : BitVec 32 := 0#32
  let c1_i32 : BitVec 32 := 1#32
  let arg11 : BitVec 32 := Scf.iv c0_i32_31 c1_i32 k0_t1
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off3 (k0_t1 : Fin k0_t1_loop.trips) (c0_i32_92 : BitVec 32) (c0_i32_93 : BitVec 32) : Fin 3 → Nat :=
  let c32_i32_91 : BitVec 32 := 32#32
  let c0_i32_31 : BitVec 32 := 0#32
  let c1_i32 : BitVec 32 := 1#32
  let arg11 : BitVec 32 := Scf.iv c0_i32_31 c1_i32 k0_t1
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0, 0]
def k0_mult3 (k0_t1 : Fin k0_t1_loop.trips) : BitVec 32 :=
  let c32_i32_95 : BitVec 32 := 32#32
  let c0_i32_31 : BitVec 32 := 0#32
  let c1_i32 : BitVec 32 := 1#32
  let arg11 : BitVec 32 := Scf.iv c0_i32_31 c1_i32 k0_t1
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult4 (k0_t1 : Fin k0_t1_loop.trips) : BitVec 32 :=
  let c32_i32_102 : BitVec 32 := 32#32
  let c0_i32_31 : BitVec 32 := 0#32
  let c1_i32 : BitVec 32 := 1#32
  let arg11 : BitVec 32 := Scf.iv c0_i32_31 c1_i32 k0_t1
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult5 (k0_t1 : Fin k0_t1_loop.trips) : BitVec 32 :=
  let c32_i32_105 : BitVec 32 := 32#32
  let c0_i32_31 : BitVec 32 := 0#32
  let c1_i32 : BitVec 32 := 1#32
  let arg11 : BitVec 32 := Scf.iv c0_i32_31 c1_i32 k0_t1
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t2_loop : Scf.Loop 32 :=
  let c0_i32_33 : BitVec 32 := 0#32
  let c72_i32_34 : BitVec 32 := 72#32
  let v78 : BitVec 32 := Scalar.addi c0_i32_33 c72_i32_34
  let c1_i32_35 : BitVec 32 := 1#32
  ⟨c0_i32_33, v78, c1_i32_35⟩
def k0_off4 (k0_t2 : Fin k0_t2_loop.trips) : Fin 3 → Nat :=
  let c0_i32_33 : BitVec 32 := 0#32
  let c1_i32_35 : BitVec 32 := 1#32
  let arg11 : BitVec 32 := Scf.iv c0_i32_33 c1_i32_35 k0_t2
  let v113 : Index := Scalar.indexCast arg11
  let c128 : Index := 128#32
  ![v113.toNat, 0, 128]
def k0_mult6 (k0_t2 : Fin k0_t2_loop.trips) : BitVec 32 :=
  let c32_i32 : BitVec 32 := 32#32
  let c0_i32_33 : BitVec 32 := 0#32
  let c1_i32_35 : BitVec 32 := 1#32
  let arg11 : BitVec 32 := Scf.iv c0_i32_33 c1_i32_35 k0_t2
  let v118 : BitVec 32 := Scalar.muli c32_i32 arg11
  v118
def k0_off5 (k0_t2 : Fin k0_t2_loop.trips) : Fin 2 → Nat :=
  let c32_i32 : BitVec 32 := 32#32
  let c0_i32_33 : BitVec 32 := 0#32
  let c1_i32_35 : BitVec 32 := 1#32
  let arg11 : BitVec 32 := Scf.iv c0_i32_33 c1_i32_35 k0_t2
  let v118 : BitVec 32 := Scalar.muli c32_i32 arg11
  let v119 : BitVec 32 := v118
  let v120 : Index := Scalar.indexCast v119
  let c128_88 : Index := 128#32
  ![v120.toNat, 128]
def k0_mult7 (k0_t2 : Fin k0_t2_loop.trips) : BitVec 32 :=
  let c32_i32_90 : BitVec 32 := 32#32
  let c0_i32_33 : BitVec 32 := 0#32
  let c1_i32_35 : BitVec 32 := 1#32
  let arg11 : BitVec 32 := Scf.iv c0_i32_33 c1_i32_35 k0_t2
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off6 (k0_t2 : Fin k0_t2_loop.trips) (c0_i32_91 : BitVec 32) (c0_i32_92 : BitVec 32) : Fin 3 → Nat :=
  let c32_i32_90 : BitVec 32 := 32#32
  let c0_i32_33 : BitVec 32 := 0#32
  let c1_i32_35 : BitVec 32 := 1#32
  let arg11 : BitVec 32 := Scf.iv c0_i32_33 c1_i32_35 k0_t2
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128_93 : Index := 128#32
  ![v138.toNat, 0, 128]
def k0_mult8 (k0_t2 : Fin k0_t2_loop.trips) : BitVec 32 :=
  let c32_i32_94 : BitVec 32 := 32#32
  let c0_i32_33 : BitVec 32 := 0#32
  let c1_i32_35 : BitVec 32 := 1#32
  let arg11 : BitVec 32 := Scf.iv c0_i32_33 c1_i32_35 k0_t2
  let v145 : BitVec 32 := Scalar.muli c32_i32_94 arg11
  let c16_i32_95 : BitVec 32 := 16#32
  let v146 : BitVec 32 := Scalar.addi v145 c16_i32_95
  let c0_i32_96 : BitVec 32 := 0#32
  let v147 : BitVec 32 := Scalar.addi v146 c0_i32_96
  v147
def k0_mult9 (k0_t2 : Fin k0_t2_loop.trips) : BitVec 32 :=
  let c32_i32_101 : BitVec 32 := 32#32
  let c0_i32_33 : BitVec 32 := 0#32
  let c1_i32_35 : BitVec 32 := 1#32
  let arg11 : BitVec 32 := Scf.iv c0_i32_33 c1_i32_35 k0_t2
  let v165 : BitVec 32 := Scalar.muli c32_i32_101 arg11
  let c0_i32_102 : BitVec 32 := 0#32
  let v166 : BitVec 32 := Scalar.addi v165 c0_i32_102
  let c8_i32 : BitVec 32 := 8#32
  let v167 : BitVec 32 := Scalar.addi v166 c8_i32
  v167
def k0_mult10 (k0_t2 : Fin k0_t2_loop.trips) : BitVec 32 :=
  let c32_i32_104 : BitVec 32 := 32#32
  let c0_i32_33 : BitVec 32 := 0#32
  let c1_i32_35 : BitVec 32 := 1#32
  let arg11 : BitVec 32 := Scf.iv c0_i32_33 c1_i32_35 k0_t2
  let v177 : BitVec 32 := Scalar.muli c32_i32_104 arg11
  let c16_i32_105 : BitVec 32 := 16#32
  let v178 : BitVec 32 := Scalar.addi v177 c16_i32_105
  let c8_i32_106 : BitVec 32 := 8#32
  let v179 : BitVec 32 := Scalar.addi v178 c8_i32_106
  v179
@[reducible] def k0_t3_loop : Scf.Loop 32 :=
  let c0_i32_43 : BitVec 32 := 0#32
  let c72_i32_44 : BitVec 32 := 72#32
  let v86 : BitVec 32 := Scalar.addi c0_i32_43 c72_i32_44
  let c1_i32_45 : BitVec 32 := 1#32
  ⟨c0_i32_43, v86, c1_i32_45⟩
def k0_off7 (k0_t3 : Fin k0_t3_loop.trips) : Fin 3 → Nat :=
  let c0_i32_43 : BitVec 32 := 0#32
  let c1_i32_45 : BitVec 32 := 1#32
  let arg11 : BitVec 32 := Scf.iv c0_i32_43 c1_i32_45 k0_t3
  let v113 : Index := Scalar.indexCast arg11
  let c256_88 : Index := 256#32
  ![v113.toNat, 0, 256]
def k0_mult11 (k0_t3 : Fin k0_t3_loop.trips) : BitVec 32 :=
  let c32_i32 : BitVec 32 := 32#32
  let c0_i32_43 : BitVec 32 := 0#32
  let c1_i32_45 : BitVec 32 := 1#32
  let arg11 : BitVec 32 := Scf.iv c0_i32_43 c1_i32_45 k0_t3
  let v118 : BitVec 32 := Scalar.muli c32_i32 arg11
  v118
def k0_off8 (k0_t3 : Fin k0_t3_loop.trips) : Fin 2 → Nat :=
  let c32_i32 : BitVec 32 := 32#32
  let c0_i32_43 : BitVec 32 := 0#32
  let c1_i32_45 : BitVec 32 := 1#32
  let arg11 : BitVec 32 := Scf.iv c0_i32_43 c1_i32_45 k0_t3
  let v118 : BitVec 32 := Scalar.muli c32_i32 arg11
  let v119 : BitVec 32 := v118
  let v120 : Index := Scalar.indexCast v119
  let c256_89 : Index := 256#32
  ![v120.toNat, 256]
def k0_mult12 (k0_t3 : Fin k0_t3_loop.trips) : BitVec 32 :=
  let c32_i32_91 : BitVec 32 := 32#32
  let c0_i32_43 : BitVec 32 := 0#32
  let c1_i32_45 : BitVec 32 := 1#32
  let arg11 : BitVec 32 := Scf.iv c0_i32_43 c1_i32_45 k0_t3
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off9 (k0_t3 : Fin k0_t3_loop.trips) (c0_i32_92 : BitVec 32) (c0_i32_93 : BitVec 32) : Fin 3 → Nat :=
  let c32_i32_91 : BitVec 32 := 32#32
  let c0_i32_43 : BitVec 32 := 0#32
  let c1_i32_45 : BitVec 32 := 1#32
  let arg11 : BitVec 32 := Scf.iv c0_i32_43 c1_i32_45 k0_t3
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0, 0]
def k0_mult13 (k0_t3 : Fin k0_t3_loop.trips) : BitVec 32 :=
  let c32_i32_95 : BitVec 32 := 32#32
  let c0_i32_43 : BitVec 32 := 0#32
  let c1_i32_45 : BitVec 32 := 1#32
  let arg11 : BitVec 32 := Scf.iv c0_i32_43 c1_i32_45 k0_t3
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult14 (k0_t3 : Fin k0_t3_loop.trips) : BitVec 32 :=
  let c32_i32_102 : BitVec 32 := 32#32
  let c0_i32_43 : BitVec 32 := 0#32
  let c1_i32_45 : BitVec 32 := 1#32
  let arg11 : BitVec 32 := Scf.iv c0_i32_43 c1_i32_45 k0_t3
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult15 (k0_t3 : Fin k0_t3_loop.trips) : BitVec 32 :=
  let c32_i32_105 : BitVec 32 := 32#32
  let c0_i32_43 : BitVec 32 := 0#32
  let c1_i32_45 : BitVec 32 := 1#32
  let arg11 : BitVec 32 := Scf.iv c0_i32_43 c1_i32_45 k0_t3
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t4_loop : Scf.Loop 32 :=
  let c0_i32_47 : BitVec 32 := 0#32
  let c72_i32_48 : BitVec 32 := 72#32
  let v87 : BitVec 32 := Scalar.addi c0_i32_47 c72_i32_48
  let c1_i32_49 : BitVec 32 := 1#32
  ⟨c0_i32_47, v87, c1_i32_49⟩
def k0_off10 (k0_t4 : Fin k0_t4_loop.trips) : Fin 3 → Nat :=
  let c0_i32_47 : BitVec 32 := 0#32
  let c1_i32_49 : BitVec 32 := 1#32
  let arg11 : BitVec 32 := Scf.iv c0_i32_47 c1_i32_49 k0_t4
  let v113 : Index := Scalar.indexCast arg11
  let c384 : Index := 384#32
  ![v113.toNat, 0, 384]
def k0_mult16 (k0_t4 : Fin k0_t4_loop.trips) : BitVec 32 :=
  let c32_i32 : BitVec 32 := 32#32
  let c0_i32_47 : BitVec 32 := 0#32
  let c1_i32_49 : BitVec 32 := 1#32
  let arg11 : BitVec 32 := Scf.iv c0_i32_47 c1_i32_49 k0_t4
  let v118 : BitVec 32 := Scalar.muli c32_i32 arg11
  v118
def k0_off11 (k0_t4 : Fin k0_t4_loop.trips) : Fin 2 → Nat :=
  let c32_i32 : BitVec 32 := 32#32
  let c0_i32_47 : BitVec 32 := 0#32
  let c1_i32_49 : BitVec 32 := 1#32
  let arg11 : BitVec 32 := Scf.iv c0_i32_47 c1_i32_49 k0_t4
  let v118 : BitVec 32 := Scalar.muli c32_i32 arg11
  let v119 : BitVec 32 := v118
  let v120 : Index := Scalar.indexCast v119
  let c384_88 : Index := 384#32
  ![v120.toNat, 384]
def k0_mult17 (k0_t4 : Fin k0_t4_loop.trips) : BitVec 32 :=
  let c32_i32_90 : BitVec 32 := 32#32
  let c0_i32_47 : BitVec 32 := 0#32
  let c1_i32_49 : BitVec 32 := 1#32
  let arg11 : BitVec 32 := Scf.iv c0_i32_47 c1_i32_49 k0_t4
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off12 (k0_t4 : Fin k0_t4_loop.trips) (c0_i32_91 : BitVec 32) (c0_i32_92 : BitVec 32) : Fin 3 → Nat :=
  let c32_i32_90 : BitVec 32 := 32#32
  let c0_i32_47 : BitVec 32 := 0#32
  let c1_i32_49 : BitVec 32 := 1#32
  let arg11 : BitVec 32 := Scf.iv c0_i32_47 c1_i32_49 k0_t4
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 0, 128]
def k0_mult18 (k0_t4 : Fin k0_t4_loop.trips) : BitVec 32 :=
  let c32_i32_93 : BitVec 32 := 32#32
  let c0_i32_47 : BitVec 32 := 0#32
  let c1_i32_49 : BitVec 32 := 1#32
  let arg11 : BitVec 32 := Scf.iv c0_i32_47 c1_i32_49 k0_t4
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult19 (k0_t4 : Fin k0_t4_loop.trips) : BitVec 32 :=
  let c32_i32_100 : BitVec 32 := 32#32
  let c0_i32_47 : BitVec 32 := 0#32
  let c1_i32_49 : BitVec 32 := 1#32
  let arg11 : BitVec 32 := Scf.iv c0_i32_47 c1_i32_49 k0_t4
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult20 (k0_t4 : Fin k0_t4_loop.trips) : BitVec 32 :=
  let c32_i32_103 : BitVec 32 := 32#32
  let c0_i32_47 : BitVec 32 := 0#32
  let c1_i32_49 : BitVec 32 := 1#32
  let arg11 : BitVec 32 := Scf.iv c0_i32_47 c1_i32_49 k0_t4
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
@[reducible] def k0_t5_loop : Scf.Loop 32 :=
  let c0_i32_58 : BitVec 32 := 0#32
  let c72_i32_59 : BitVec 32 := 72#32
  let v95 : BitVec 32 := Scalar.addi c0_i32_58 c72_i32_59
  let c1_i32_60 : BitVec 32 := 1#32
  ⟨c0_i32_58, v95, c1_i32_60⟩
def k0_off13 (k0_t5 : Fin k0_t5_loop.trips) : Fin 3 → Nat :=
  let c0_i32_58 : BitVec 32 := 0#32
  let c1_i32_60 : BitVec 32 := 1#32
  let arg11 : BitVec 32 := Scf.iv c0_i32_58 c1_i32_60 k0_t5
  let v113 : Index := Scalar.indexCast arg11
  let c512_88 : Index := 512#32
  ![v113.toNat, 0, 512]
def k0_mult21 (k0_t5 : Fin k0_t5_loop.trips) : BitVec 32 :=
  let c32_i32 : BitVec 32 := 32#32
  let c0_i32_58 : BitVec 32 := 0#32
  let c1_i32_60 : BitVec 32 := 1#32
  let arg11 : BitVec 32 := Scf.iv c0_i32_58 c1_i32_60 k0_t5
  let v118 : BitVec 32 := Scalar.muli c32_i32 arg11
  v118
def k0_off14 (k0_t5 : Fin k0_t5_loop.trips) : Fin 2 → Nat :=
  let c32_i32 : BitVec 32 := 32#32
  let c0_i32_58 : BitVec 32 := 0#32
  let c1_i32_60 : BitVec 32 := 1#32
  let arg11 : BitVec 32 := Scf.iv c0_i32_58 c1_i32_60 k0_t5
  let v118 : BitVec 32 := Scalar.muli c32_i32 arg11
  let v119 : BitVec 32 := v118
  let v120 : Index := Scalar.indexCast v119
  let c512_89 : Index := 512#32
  ![v120.toNat, 512]
def k0_mult22 (k0_t5 : Fin k0_t5_loop.trips) : BitVec 32 :=
  let c32_i32_91 : BitVec 32 := 32#32
  let c0_i32_58 : BitVec 32 := 0#32
  let c1_i32_60 : BitVec 32 := 1#32
  let arg11 : BitVec 32 := Scf.iv c0_i32_58 c1_i32_60 k0_t5
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off15 (k0_t5 : Fin k0_t5_loop.trips) (c0_i32_92 : BitVec 32) (c0_i32_93 : BitVec 32) : Fin 3 → Nat :=
  let c32_i32_91 : BitVec 32 := 32#32
  let c0_i32_58 : BitVec 32 := 0#32
  let c1_i32_60 : BitVec 32 := 1#32
  let arg11 : BitVec 32 := Scf.iv c0_i32_58 c1_i32_60 k0_t5
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0, 0]
def k0_mult23 (k0_t5 : Fin k0_t5_loop.trips) : BitVec 32 :=
  let c32_i32_95 : BitVec 32 := 32#32
  let c0_i32_58 : BitVec 32 := 0#32
  let c1_i32_60 : BitVec 32 := 1#32
  let arg11 : BitVec 32 := Scf.iv c0_i32_58 c1_i32_60 k0_t5
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult24 (k0_t5 : Fin k0_t5_loop.trips) : BitVec 32 :=
  let c32_i32_102 : BitVec 32 := 32#32
  let c0_i32_58 : BitVec 32 := 0#32
  let c1_i32_60 : BitVec 32 := 1#32
  let arg11 : BitVec 32 := Scf.iv c0_i32_58 c1_i32_60 k0_t5
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult25 (k0_t5 : Fin k0_t5_loop.trips) : BitVec 32 :=
  let c32_i32_105 : BitVec 32 := 32#32
  let c0_i32_58 : BitVec 32 := 0#32
  let c1_i32_60 : BitVec 32 := 1#32
  let arg11 : BitVec 32 := Scf.iv c0_i32_58 c1_i32_60 k0_t5
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t6_loop : Scf.Loop 32 :=
  let c0_i32_62 : BitVec 32 := 0#32
  let c72_i32_63 : BitVec 32 := 72#32
  let v96 : BitVec 32 := Scalar.addi c0_i32_62 c72_i32_63
  let c1_i32_64 : BitVec 32 := 1#32
  ⟨c0_i32_62, v96, c1_i32_64⟩
def k0_off16 (k0_t6 : Fin k0_t6_loop.trips) : Fin 3 → Nat :=
  let c0_i32_62 : BitVec 32 := 0#32
  let c1_i32_64 : BitVec 32 := 1#32
  let arg11 : BitVec 32 := Scf.iv c0_i32_62 c1_i32_64 k0_t6
  let v113 : Index := Scalar.indexCast arg11
  let c640 : Index := 640#32
  ![v113.toNat, 0, 640]
def k0_mult26 (k0_t6 : Fin k0_t6_loop.trips) : BitVec 32 :=
  let c32_i32 : BitVec 32 := 32#32
  let c0_i32_62 : BitVec 32 := 0#32
  let c1_i32_64 : BitVec 32 := 1#32
  let arg11 : BitVec 32 := Scf.iv c0_i32_62 c1_i32_64 k0_t6
  let v118 : BitVec 32 := Scalar.muli c32_i32 arg11
  v118
def k0_off17 (k0_t6 : Fin k0_t6_loop.trips) : Fin 2 → Nat :=
  let c32_i32 : BitVec 32 := 32#32
  let c0_i32_62 : BitVec 32 := 0#32
  let c1_i32_64 : BitVec 32 := 1#32
  let arg11 : BitVec 32 := Scf.iv c0_i32_62 c1_i32_64 k0_t6
  let v118 : BitVec 32 := Scalar.muli c32_i32 arg11
  let v119 : BitVec 32 := v118
  let v120 : Index := Scalar.indexCast v119
  let c640_88 : Index := 640#32
  ![v120.toNat, 640]
def k0_mult27 (k0_t6 : Fin k0_t6_loop.trips) : BitVec 32 :=
  let c32_i32_90 : BitVec 32 := 32#32
  let c0_i32_62 : BitVec 32 := 0#32
  let c1_i32_64 : BitVec 32 := 1#32
  let arg11 : BitVec 32 := Scf.iv c0_i32_62 c1_i32_64 k0_t6
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off18 (k0_t6 : Fin k0_t6_loop.trips) (c0_i32_91 : BitVec 32) (c0_i32_92 : BitVec 32) : Fin 3 → Nat :=
  let c32_i32_90 : BitVec 32 := 32#32
  let c0_i32_62 : BitVec 32 := 0#32
  let c1_i32_64 : BitVec 32 := 1#32
  let arg11 : BitVec 32 := Scf.iv c0_i32_62 c1_i32_64 k0_t6
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 0, 128]
def k0_mult28 (k0_t6 : Fin k0_t6_loop.trips) : BitVec 32 :=
  let c32_i32_93 : BitVec 32 := 32#32
  let c0_i32_62 : BitVec 32 := 0#32
  let c1_i32_64 : BitVec 32 := 1#32
  let arg11 : BitVec 32 := Scf.iv c0_i32_62 c1_i32_64 k0_t6
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult29 (k0_t6 : Fin k0_t6_loop.trips) : BitVec 32 :=
  let c32_i32_100 : BitVec 32 := 32#32
  let c0_i32_62 : BitVec 32 := 0#32
  let c1_i32_64 : BitVec 32 := 1#32
  let arg11 : BitVec 32 := Scf.iv c0_i32_62 c1_i32_64 k0_t6
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult30 (k0_t6 : Fin k0_t6_loop.trips) : BitVec 32 :=
  let c32_i32_103 : BitVec 32 := 32#32
  let c0_i32_62 : BitVec 32 := 0#32
  let c1_i32_64 : BitVec 32 := 1#32
  let arg11 : BitVec 32 := Scf.iv c0_i32_62 c1_i32_64 k0_t6
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
@[reducible] def k0_t7_loop : Scf.Loop 32 :=
  let c0_i32_73 : BitVec 32 := 0#32
  let c72_i32_74 : BitVec 32 := 72#32
  let v104 : BitVec 32 := Scalar.addi c0_i32_73 c72_i32_74
  let c1_i32_75 : BitVec 32 := 1#32
  ⟨c0_i32_73, v104, c1_i32_75⟩
def k0_off19 (k0_t7 : Fin k0_t7_loop.trips) : Fin 3 → Nat :=
  let c0_i32_73 : BitVec 32 := 0#32
  let c1_i32_75 : BitVec 32 := 1#32
  let arg11 : BitVec 32 := Scf.iv c0_i32_73 c1_i32_75 k0_t7
  let v113 : Index := Scalar.indexCast arg11
  let c768_88 : Index := 768#32
  ![v113.toNat, 0, 768]
def k0_mult31 (k0_t7 : Fin k0_t7_loop.trips) : BitVec 32 :=
  let c32_i32 : BitVec 32 := 32#32
  let c0_i32_73 : BitVec 32 := 0#32
  let c1_i32_75 : BitVec 32 := 1#32
  let arg11 : BitVec 32 := Scf.iv c0_i32_73 c1_i32_75 k0_t7
  let v118 : BitVec 32 := Scalar.muli c32_i32 arg11
  v118
def k0_off20 (k0_t7 : Fin k0_t7_loop.trips) : Fin 2 → Nat :=
  let c32_i32 : BitVec 32 := 32#32
  let c0_i32_73 : BitVec 32 := 0#32
  let c1_i32_75 : BitVec 32 := 1#32
  let arg11 : BitVec 32 := Scf.iv c0_i32_73 c1_i32_75 k0_t7
  let v118 : BitVec 32 := Scalar.muli c32_i32 arg11
  let v119 : BitVec 32 := v118
  let v120 : Index := Scalar.indexCast v119
  let c768_89 : Index := 768#32
  ![v120.toNat, 768]
def k0_mult32 (k0_t7 : Fin k0_t7_loop.trips) : BitVec 32 :=
  let c32_i32_91 : BitVec 32 := 32#32
  let c0_i32_73 : BitVec 32 := 0#32
  let c1_i32_75 : BitVec 32 := 1#32
  let arg11 : BitVec 32 := Scf.iv c0_i32_73 c1_i32_75 k0_t7
  let v133 : BitVec 32 := Scalar.muli c32_i32_91 arg11
  let c0_i32_92 : BitVec 32 := 0#32
  let v134 : BitVec 32 := Scalar.addi v133 c0_i32_92
  let c0_i32_93 : BitVec 32 := 0#32
  let v135 : BitVec 32 := Scalar.addi v134 c0_i32_93
  v135
def k0_off21 (k0_t7 : Fin k0_t7_loop.trips) (c0_i32_92 : BitVec 32) (c0_i32_93 : BitVec 32) : Fin 3 → Nat :=
  let c32_i32_91 : BitVec 32 := 32#32
  let c0_i32_73 : BitVec 32 := 0#32
  let c1_i32_75 : BitVec 32 := 1#32
  let arg11 : BitVec 32 := Scf.iv c0_i32_73 c1_i32_75 k0_t7
  let v133 : BitVec 32 := Scalar.muli c32_i32_91 arg11
  let v134 : BitVec 32 := Scalar.addi v133 c0_i32_92
  let v135 : BitVec 32 := Scalar.addi v134 c0_i32_93
  let v136 : BitVec 32 := v135
  let v138 : Index := Scalar.indexCast v136
  let c0_94 : Index := 0#32
  ![v138.toNat, 0, 0]
def k0_mult33 (k0_t7 : Fin k0_t7_loop.trips) : BitVec 32 :=
  let c32_i32_95 : BitVec 32 := 32#32
  let c0_i32_73 : BitVec 32 := 0#32
  let c1_i32_75 : BitVec 32 := 1#32
  let arg11 : BitVec 32 := Scf.iv c0_i32_73 c1_i32_75 k0_t7
  let v145 : BitVec 32 := Scalar.muli c32_i32_95 arg11
  let c16_i32_96 : BitVec 32 := 16#32
  let v146 : BitVec 32 := Scalar.addi v145 c16_i32_96
  let c0_i32_97 : BitVec 32 := 0#32
  let v147 : BitVec 32 := Scalar.addi v146 c0_i32_97
  v147
def k0_mult34 (k0_t7 : Fin k0_t7_loop.trips) : BitVec 32 :=
  let c32_i32_102 : BitVec 32 := 32#32
  let c0_i32_73 : BitVec 32 := 0#32
  let c1_i32_75 : BitVec 32 := 1#32
  let arg11 : BitVec 32 := Scf.iv c0_i32_73 c1_i32_75 k0_t7
  let v165 : BitVec 32 := Scalar.muli c32_i32_102 arg11
  let c0_i32_103 : BitVec 32 := 0#32
  let v166 : BitVec 32 := Scalar.addi v165 c0_i32_103
  let c8_i32 : BitVec 32 := 8#32
  let v167 : BitVec 32 := Scalar.addi v166 c8_i32
  v167
def k0_mult35 (k0_t7 : Fin k0_t7_loop.trips) : BitVec 32 :=
  let c32_i32_105 : BitVec 32 := 32#32
  let c0_i32_73 : BitVec 32 := 0#32
  let c1_i32_75 : BitVec 32 := 1#32
  let arg11 : BitVec 32 := Scf.iv c0_i32_73 c1_i32_75 k0_t7
  let v177 : BitVec 32 := Scalar.muli c32_i32_105 arg11
  let c16_i32_106 : BitVec 32 := 16#32
  let v178 : BitVec 32 := Scalar.addi v177 c16_i32_106
  let c8_i32_107 : BitVec 32 := 8#32
  let v179 : BitVec 32 := Scalar.addi v178 c8_i32_107
  v179
@[reducible] def k0_t8_loop : Scf.Loop 32 :=
  let c0_i32_77 : BitVec 32 := 0#32
  let c72_i32_78 : BitVec 32 := 72#32
  let v105 : BitVec 32 := Scalar.addi c0_i32_77 c72_i32_78
  let c1_i32_79 : BitVec 32 := 1#32
  ⟨c0_i32_77, v105, c1_i32_79⟩
def k0_off22 (k0_t8 : Fin k0_t8_loop.trips) : Fin 3 → Nat :=
  let c0_i32_77 : BitVec 32 := 0#32
  let c1_i32_79 : BitVec 32 := 1#32
  let arg11 : BitVec 32 := Scf.iv c0_i32_77 c1_i32_79 k0_t8
  let v113 : Index := Scalar.indexCast arg11
  let c896 : Index := 896#32
  ![v113.toNat, 0, 896]
def k0_mult36 (k0_t8 : Fin k0_t8_loop.trips) : BitVec 32 :=
  let c32_i32 : BitVec 32 := 32#32
  let c0_i32_77 : BitVec 32 := 0#32
  let c1_i32_79 : BitVec 32 := 1#32
  let arg11 : BitVec 32 := Scf.iv c0_i32_77 c1_i32_79 k0_t8
  let v118 : BitVec 32 := Scalar.muli c32_i32 arg11
  v118
def k0_off23 (k0_t8 : Fin k0_t8_loop.trips) : Fin 2 → Nat :=
  let c32_i32 : BitVec 32 := 32#32
  let c0_i32_77 : BitVec 32 := 0#32
  let c1_i32_79 : BitVec 32 := 1#32
  let arg11 : BitVec 32 := Scf.iv c0_i32_77 c1_i32_79 k0_t8
  let v118 : BitVec 32 := Scalar.muli c32_i32 arg11
  let v119 : BitVec 32 := v118
  let v120 : Index := Scalar.indexCast v119
  let c896_88 : Index := 896#32
  ![v120.toNat, 896]
def k0_mult37 (k0_t8 : Fin k0_t8_loop.trips) : BitVec 32 :=
  let c32_i32_90 : BitVec 32 := 32#32
  let c0_i32_77 : BitVec 32 := 0#32
  let c1_i32_79 : BitVec 32 := 1#32
  let arg11 : BitVec 32 := Scf.iv c0_i32_77 c1_i32_79 k0_t8
  let v133 : BitVec 32 := Scalar.muli c32_i32_90 arg11
  let c0_i32_91 : BitVec 32 := 0#32
  let v134 : BitVec 32 := Scalar.addi v133 c0_i32_91
  let c0_i32_92 : BitVec 32 := 0#32
  let v135 : BitVec 32 := Scalar.addi v134 c0_i32_92
  v135
def k0_off24 (k0_t8 : Fin k0_t8_loop.trips) (c0_i32_91 : BitVec 32) (c0_i32_92 : BitVec 32) : Fin 3 → Nat :=
  let c32_i32_90 : BitVec 32 := 32#32
  let c0_i32_77 : BitVec 32 := 0#32
  let c1_i32_79 : BitVec 32 := 1#32
  let arg11 : BitVec 32 := Scf.iv c0_i32_77 c1_i32_79 k0_t8
  let v133 : BitVec 32 := Scalar.muli c32_i32_90 arg11
  let v134 : BitVec 32 := Scalar.addi v133 c0_i32_91
  let v135 : BitVec 32 := Scalar.addi v134 c0_i32_92
  let v136 : BitVec 32 := v135
  let v138 : Index := Scalar.indexCast v136
  let c128 : Index := 128#32
  ![v138.toNat, 0, 128]
def k0_mult38 (k0_t8 : Fin k0_t8_loop.trips) : BitVec 32 :=
  let c32_i32_93 : BitVec 32 := 32#32
  let c0_i32_77 : BitVec 32 := 0#32
  let c1_i32_79 : BitVec 32 := 1#32
  let arg11 : BitVec 32 := Scf.iv c0_i32_77 c1_i32_79 k0_t8
  let v145 : BitVec 32 := Scalar.muli c32_i32_93 arg11
  let c16_i32_94 : BitVec 32 := 16#32
  let v146 : BitVec 32 := Scalar.addi v145 c16_i32_94
  let c0_i32_95 : BitVec 32 := 0#32
  let v147 : BitVec 32 := Scalar.addi v146 c0_i32_95
  v147
def k0_mult39 (k0_t8 : Fin k0_t8_loop.trips) : BitVec 32 :=
  let c32_i32_100 : BitVec 32 := 32#32
  let c0_i32_77 : BitVec 32 := 0#32
  let c1_i32_79 : BitVec 32 := 1#32
  let arg11 : BitVec 32 := Scf.iv c0_i32_77 c1_i32_79 k0_t8
  let v165 : BitVec 32 := Scalar.muli c32_i32_100 arg11
  let c0_i32_101 : BitVec 32 := 0#32
  let v166 : BitVec 32 := Scalar.addi v165 c0_i32_101
  let c8_i32 : BitVec 32 := 8#32
  let v167 : BitVec 32 := Scalar.addi v166 c8_i32
  v167
def k0_mult40 (k0_t8 : Fin k0_t8_loop.trips) : BitVec 32 :=
  let c32_i32_103 : BitVec 32 := 32#32
  let c0_i32_77 : BitVec 32 := 0#32
  let c1_i32_79 : BitVec 32 := 1#32
  let arg11 : BitVec 32 := Scf.iv c0_i32_77 c1_i32_79 k0_t8
  let v177 : BitVec 32 := Scalar.muli c32_i32_103 arg11
  let c16_i32_104 : BitVec 32 := 16#32
  let v178 : BitVec 32 := Scalar.addi v177 c16_i32_104
  let c8_i32_105 : BitVec 32 := 8#32
  let v179 : BitVec 32 := Scalar.addi v178 c8_i32_105
  v179
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2304x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S72x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x72x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S256x1x4608 : Shape := ⟨3, ![256, 1, 4608]⟩
abbrev S2304x73728 : Shape := ⟨2, ![2304, 73728]⟩
abbrev S72x73728 : Shape := ⟨2, ![72, 73728]⟩
abbrev S72x288 : Shape := ⟨2, ![72, 288]⟩
abbrev S_ : Shape := ⟨0, ![]⟩
abbrev S72x288x256 : Shape := ⟨3, ![72, 288, 256]⟩
abbrev S72x288x1 : Shape := ⟨3, ![72, 288, 1]⟩
abbrev S72x32x73728 : Shape := ⟨3, ![72, 32, 73728]⟩
abbrev S72x1x73728 : Shape := ⟨3, ![72, 1, 73728]⟩
abbrev S256x1x2304 : Shape := ⟨3, ![256, 1, 2304]⟩
abbrev S256x1x73728 : Shape := ⟨3, ![256, 1, 73728]⟩
abbrev S256x73728 : Shape := ⟨2, ![256, 73728]⟩

abbrev nBuf : Space → Nat
  | .hbm => 208
  | .vmem => 0
  | .smem => 0
  | _ => 0

abbrev hbmTy0_0 (i : Nat) : BufTy := match i % 128 with
  | 0 => ⟨S256x1x4608, .bf16⟩
  | 1 => ⟨S2304x73728, .i8⟩
  | 2 => ⟨S72x73728, .i8⟩
  | 3 => ⟨S72x288, .f32⟩
  | 4 => ⟨S_, .f32⟩
  | 5 => ⟨S72x73728, .i32⟩
  | 6 => ⟨S72x73728, .f32⟩
  | 7 => ⟨S72x288x256, .f32⟩
  | 8 => ⟨S72x288x1, .f32⟩
  | 9 => ⟨S72x288x256, .f32⟩
  | 10 => ⟨S72x288x256, .f32⟩
  | 11 => ⟨S72x288x256, .f32⟩
  | 12 => ⟨S72x288x256, .f32⟩
  | 13 => ⟨S72x73728, .f32⟩
  | 14 => ⟨S72x73728, .bf16⟩
  | 15 => ⟨S2304x73728, .i32⟩
  | 16 => ⟨S_, .i32⟩
  | 17 => ⟨S2304x73728, .i32⟩
  | 18 => ⟨S2304x73728, .i32⟩
  | 19 => ⟨S_, .i32⟩
  | 20 => ⟨S2304x73728, .i32⟩
  | 21 => ⟨S2304x73728, .i32⟩
  | 22 => ⟨S_, .i32⟩
  | 23 => ⟨S2304x73728, .i32⟩
  | 24 => ⟨S2304x73728, .i32⟩
  | 25 => ⟨S_, .i32⟩
  | 26 => ⟨S2304x73728, .i32⟩
  | 27 => ⟨S2304x73728, .i32⟩
  | 28 => ⟨S_, .i32⟩
  | 29 => ⟨S2304x73728, .i32⟩
  | 30 => ⟨S2304x73728, .i1⟩
  | 31 => ⟨S_, .bf16⟩
  | 32 => ⟨S_, .bf16⟩
  | 33 => ⟨S2304x73728, .bf16⟩
  | 34 => ⟨S2304x73728, .bf16⟩
  | 35 => ⟨S2304x73728, .bf16⟩
  | 36 => ⟨S_, .bf16⟩
  | 37 => ⟨S_, .bf16⟩
  | 38 => ⟨S2304x73728, .bf16⟩
  | 39 => ⟨S2304x73728, .bf16⟩
  | 40 => ⟨S2304x73728, .bf16⟩
  | 41 => ⟨S_, .bf16⟩
  | 42 => ⟨S_, .bf16⟩
  | 43 => ⟨S2304x73728, .bf16⟩
  | 44 => ⟨S2304x73728, .bf16⟩
  | 45 => ⟨S2304x73728, .bf16⟩
  | 46 => ⟨S_, .bf16⟩
  | 47 => ⟨S_, .bf16⟩
  | 48 => ⟨S2304x73728, .bf16⟩
  | 49 => ⟨S2304x73728, .bf16⟩
  | 50 => ⟨S2304x73728, .bf16⟩
  | 51 => ⟨S_, .bf16⟩
  | 52 => ⟨S_, .bf16⟩
  | 53 => ⟨S2304x73728, .bf16⟩
  | 54 => ⟨S2304x73728, .bf16⟩
  | 55 => ⟨S2304x73728, .bf16⟩
  | 56 => ⟨S_, .bf16⟩
  | 57 => ⟨S_, .bf16⟩
  | 58 => ⟨S2304x73728, .bf16⟩
  | 59 => ⟨S2304x73728, .bf16⟩
  | 60 => ⟨S2304x73728, .bf16⟩
  | 61 => ⟨S_, .bf16⟩
  | 62 => ⟨S_, .bf16⟩
  | 63 => ⟨S2304x73728, .bf16⟩
  | 64 => ⟨S2304x73728, .bf16⟩
  | 65 => ⟨S2304x73728, .bf16⟩
  | 66 => ⟨S_, .bf16⟩
  | 67 => ⟨S_, .bf16⟩
  | 68 => ⟨S2304x73728, .bf16⟩
  | 69 => ⟨S2304x73728, .bf16⟩
  | 70 => ⟨S2304x73728, .bf16⟩
  | 71 => ⟨S_, .i32⟩
  | 72 => ⟨S2304x73728, .i32⟩
  | 73 => ⟨S2304x73728, .i32⟩
  | 74 => ⟨S_, .i32⟩
  | 75 => ⟨S2304x73728, .i32⟩
  | 76 => ⟨S2304x73728, .i32⟩
  | 77 => ⟨S_, .i32⟩
  | 78 => ⟨S2304x73728, .i32⟩
  | 79 => ⟨S2304x73728, .i1⟩
  | 80 => ⟨S2304x73728, .bf16⟩
  | 81 => ⟨S2304x73728, .bf16⟩
  | 82 => ⟨S2304x73728, .bf16⟩
  | 83 => ⟨S2304x73728, .bf16⟩
  | 84 => ⟨S_, .i32⟩
  | 85 => ⟨S2304x73728, .i32⟩
  | 86 => ⟨S2304x73728, .i32⟩
  | 87 => ⟨S_, .i32⟩
  | 88 => ⟨S2304x73728, .i32⟩
  | 89 => ⟨S2304x73728, .i32⟩
  | 90 => ⟨S_, .i32⟩
  | 91 => ⟨S2304x73728, .i32⟩
  | 92 => ⟨S2304x73728, .i1⟩
  | 93 => ⟨S2304x73728, .bf16⟩
  | 94 => ⟨S2304x73728, .bf16⟩
  | 95 => ⟨S_, .i32⟩
  | 96 => ⟨S2304x73728, .i32⟩
  | 97 => ⟨S2304x73728, .i32⟩
  | 98 => ⟨S_, .i32⟩
  | 99 => ⟨S2304x73728, .i32⟩
  | 100 => ⟨S2304x73728, .i32⟩
  | 101 => ⟨S_, .i32⟩
  | 102 => ⟨S2304x73728, .i32⟩
  | 103 => ⟨S2304x73728, .i1⟩
  | 104 => ⟨S2304x73728, .bf16⟩
  | 105 => ⟨S72x32x73728, .bf16⟩
  | 106 => ⟨S72x1x73728, .bf16⟩
  | 107 => ⟨S72x32x73728, .bf16⟩
  | 108 => ⟨S72x32x73728, .bf16⟩
  | 109 => ⟨S2304x73728, .bf16⟩
  | 110 => ⟨S_, .i32⟩
  | 111 => ⟨S2304x73728, .i32⟩
  | 112 => ⟨S2304x73728, .i32⟩
  | 113 => ⟨S_, .i32⟩
  | 114 => ⟨S2304x73728, .i32⟩
  | 115 => ⟨S2304x73728, .i32⟩
  | 116 => ⟨S_, .i32⟩
  | 117 => ⟨S2304x73728, .i32⟩
  | 118 => ⟨S2304x73728, .i32⟩
  | 119 => ⟨S_, .i32⟩
  | 120 => ⟨S2304x73728, .i32⟩
  | 121 => ⟨S2304x73728, .i1⟩
  | 122 => ⟨S_, .bf16⟩
  | 123 => ⟨S_, .bf16⟩
  | 124 => ⟨S2304x73728, .bf16⟩
  | 125 => ⟨S2304x73728, .bf16⟩
  | 126 => ⟨S2304x73728, .bf16⟩
  | 127 => ⟨S_, .bf16⟩
  | _ => ⟨S256x1x4608, .bf16⟩

abbrev hbmTy0_1 (i : Nat) : BufTy := match i % 128 with
  | 0 => ⟨S_, .bf16⟩
  | 1 => ⟨S2304x73728, .bf16⟩
  | 2 => ⟨S2304x73728, .bf16⟩
  | 3 => ⟨S2304x73728, .bf16⟩
  | 4 => ⟨S_, .bf16⟩
  | 5 => ⟨S_, .bf16⟩
  | 6 => ⟨S2304x73728, .bf16⟩
  | 7 => ⟨S2304x73728, .bf16⟩
  | 8 => ⟨S2304x73728, .bf16⟩
  | 9 => ⟨S_, .bf16⟩
  | 10 => ⟨S_, .bf16⟩
  | 11 => ⟨S2304x73728, .bf16⟩
  | 12 => ⟨S2304x73728, .bf16⟩
  | 13 => ⟨S2304x73728, .bf16⟩
  | 14 => ⟨S_, .bf16⟩
  | 15 => ⟨S_, .bf16⟩
  | 16 => ⟨S2304x73728, .bf16⟩
  | 17 => ⟨S2304x73728, .bf16⟩
  | 18 => ⟨S2304x73728, .bf16⟩
  | 19 => ⟨S_, .bf16⟩
  | 20 => ⟨S_, .bf16⟩
  | 21 => ⟨S2304x73728, .bf16⟩
  | 22 => ⟨S2304x73728, .bf16⟩
  | 23 => ⟨S2304x73728, .bf16⟩
  | 24 => ⟨S_, .bf16⟩
  | 25 => ⟨S_, .bf16⟩
  | 26 => ⟨S2304x73728, .bf16⟩
  | 27 => ⟨S2304x73728, .bf16⟩
  | 28 => ⟨S2304x73728, .bf16⟩
  | 29 => ⟨S_, .bf16⟩
  | 30 => ⟨S_, .bf16⟩
  | 31 => ⟨S2304x73728, .bf16⟩
  | 32 => ⟨S2304x73728, .bf16⟩
  | 33 => ⟨S2304x73728, .bf16⟩
  | 34 => ⟨S_, .i32⟩
  | 35 => ⟨S2304x73728, .i32⟩
  | 36 => ⟨S2304x73728, .i32⟩
  | 37 => ⟨S_, .i32⟩
  | 38 => ⟨S2304x73728, .i32⟩
  | 39 => ⟨S2304x73728, .i32⟩
  | 40 => ⟨S_, .i32⟩
  | 41 => ⟨S2304x73728, .i32⟩
  | 42 => ⟨S2304x73728, .i1⟩
  | 43 => ⟨S2304x73728, .bf16⟩
  | 44 => ⟨S2304x73728, .bf16⟩
  | 45 => ⟨S2304x73728, .bf16⟩
  | 46 => ⟨S2304x73728, .bf16⟩
  | 47 => ⟨S_, .i32⟩
  | 48 => ⟨S2304x73728, .i32⟩
  | 49 => ⟨S2304x73728, .i32⟩
  | 50 => ⟨S_, .i32⟩
  | 51 => ⟨S2304x73728, .i32⟩
  | 52 => ⟨S2304x73728, .i32⟩
  | 53 => ⟨S_, .i32⟩
  | 54 => ⟨S2304x73728, .i32⟩
  | 55 => ⟨S2304x73728, .i1⟩
  | 56 => ⟨S2304x73728, .bf16⟩
  | 57 => ⟨S2304x73728, .bf16⟩
  | 58 => ⟨S_, .i32⟩
  | 59 => ⟨S2304x73728, .i32⟩
  | 60 => ⟨S2304x73728, .i32⟩
  | 61 => ⟨S_, .i32⟩
  | 62 => ⟨S2304x73728, .i32⟩
  | 63 => ⟨S2304x73728, .i32⟩
  | 64 => ⟨S_, .i32⟩
  | 65 => ⟨S2304x73728, .i32⟩
  | 66 => ⟨S2304x73728, .i1⟩
  | 67 => ⟨S2304x73728, .bf16⟩
  | 68 => ⟨S72x32x73728, .bf16⟩
  | 69 => ⟨S72x1x73728, .bf16⟩
  | 70 => ⟨S72x32x73728, .bf16⟩
  | 71 => ⟨S72x32x73728, .bf16⟩
  | 72 => ⟨S2304x73728, .bf16⟩
  | 73 => ⟨S256x1x2304, .bf16⟩
  | 74 => ⟨S256x1x73728, .f32⟩
  | 75 => ⟨S256x1x2304, .bf16⟩
  | 76 => ⟨S256x1x73728, .f32⟩
  | 77 => ⟨S256x1x73728, .f32⟩
  | 78 => ⟨S256x1x73728, .bf16⟩
  | 79 => ⟨S256x73728, .bf16⟩
  | _ => ⟨S256x1x4608, .bf16⟩

abbrev hbmTy (i : Nat) : BufTy := match i / 128 with
  | 0 => hbmTy0_0 i
  | 1 => hbmTy0_1 i
  | _ => ⟨S256x1x4608, .bf16⟩

abbrev bufTy : (tb : Table) → Fin (tcTables nBuf tb) → BufTy
  | .hbm, ⟨i, _⟩ => hbmTy i
  | _, _ => ⟨S256x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_cst_9 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_v24 : Ref sig .tc := ⟨.hbm, 50, rfl⟩
abbrev main_cst_11 : Ref sig .tc := ⟨.hbm, 51, rfl⟩
abbrev main_cst_12 : Ref sig .tc := ⟨.hbm, 52, rfl⟩
abbrev main_call4_v0 : Ref sig .tc := ⟨.hbm, 53, rfl⟩
abbrev main_call4_v1 : Ref sig .tc := ⟨.hbm, 54, rfl⟩
abbrev main_v25 : Ref sig .tc := ⟨.hbm, 55, rfl⟩
abbrev main_cst_13 : Ref sig .tc := ⟨.hbm, 56, rfl⟩
abbrev main_cst_14 : Ref sig .tc := ⟨.hbm, 57, rfl⟩
abbrev main_call5_v0 : Ref sig .tc := ⟨.hbm, 58, rfl⟩
abbrev main_call5_v1 : Ref sig .tc := ⟨.hbm, 59, rfl⟩
abbrev main_v26 : Ref sig .tc := ⟨.hbm, 60, rfl⟩
abbrev main_cst_15 : Ref sig .tc := ⟨.hbm, 61, rfl⟩
abbrev main_cst_16 : Ref sig .tc := ⟨.hbm, 62, rfl⟩
abbrev main_call6_v0 : Ref sig .tc := ⟨.hbm, 63, rfl⟩
abbrev main_call6_v1 : Ref sig .tc := ⟨.hbm, 64, rfl⟩
abbrev main_v27 : Ref sig .tc := ⟨.hbm, 65, rfl⟩
abbrev main_cst_17 : Ref sig .tc := ⟨.hbm, 66, rfl⟩
abbrev main_cst_18 : Ref sig .tc := ⟨.hbm, 67, rfl⟩
abbrev main_call7_v0 : Ref sig .tc := ⟨.hbm, 68, rfl⟩
abbrev main_call7_v1 : Ref sig .tc := ⟨.hbm, 69, rfl⟩
abbrev main_v28 : Ref sig .tc := ⟨.hbm, 70, rfl⟩
abbrev main_c_19 : Ref sig .tc := ⟨.hbm, 71, rfl⟩
abbrev main_v29 : Ref sig .tc := ⟨.hbm, 72, rfl⟩
abbrev main_v30 : Ref sig .tc := ⟨.hbm, 73, rfl⟩
abbrev main_c_20 : Ref sig .tc := ⟨.hbm, 74, rfl⟩
abbrev main_v31 : Ref sig .tc := ⟨.hbm, 75, rfl⟩
abbrev main_v32 : Ref sig .tc := ⟨.hbm, 76, rfl⟩
abbrev main_c_21 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_c_22 : Ref sig .tc := ⟨.hbm, 84, rfl⟩
abbrev main_v39 : Ref sig .tc := ⟨.hbm, 85, rfl⟩
abbrev main_v40 : Ref sig .tc := ⟨.hbm, 86, rfl⟩
abbrev main_c_23 : Ref sig .tc := ⟨.hbm, 87, rfl⟩
abbrev main_v41 : Ref sig .tc := ⟨.hbm, 88, rfl⟩
abbrev main_v42 : Ref sig .tc := ⟨.hbm, 89, rfl⟩
abbrev main_c_24 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_25 : Ref sig .tc := ⟨.hbm, 95, rfl⟩
abbrev main_v47 : Ref sig .tc := ⟨.hbm, 96, rfl⟩
abbrev main_v48 : Ref sig .tc := ⟨.hbm, 97, rfl⟩
abbrev main_c_26 : Ref sig .tc := ⟨.hbm, 98, rfl⟩
abbrev main_v49 : Ref sig .tc := ⟨.hbm, 99, rfl⟩
abbrev main_v50 : Ref sig .tc := ⟨.hbm, 100, rfl⟩
abbrev main_c_27 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_28 : Ref sig .tc := ⟨.hbm, 110, rfl⟩
abbrev main_v59 : Ref sig .tc := ⟨.hbm, 111, rfl⟩
abbrev main_v60 : Ref sig .tc := ⟨.hbm, 112, rfl⟩
abbrev main_c_29 : Ref sig .tc := ⟨.hbm, 113, rfl⟩
abbrev main_v61 : Ref sig .tc := ⟨.hbm, 114, rfl⟩
abbrev main_v62 : Ref sig .tc := ⟨.hbm, 115, rfl⟩
abbrev main_c_30 : Ref sig .tc := ⟨.hbm, 116, rfl⟩
abbrev main_v63 : Ref sig .tc := ⟨.hbm, 117, rfl⟩
abbrev main_v64 : Ref sig .tc := ⟨.hbm, 118, rfl⟩
abbrev main_c_31 : Ref sig .tc := ⟨.hbm, 119, rfl⟩
abbrev main_v65 : Ref sig .tc := ⟨.hbm, 120, rfl⟩
abbrev main_v66 : Ref sig .tc := ⟨.hbm, 121, rfl⟩
abbrev main_cst_32 : Ref sig .tc := ⟨.hbm, 122, rfl⟩
abbrev main_cst_33 : Ref sig .tc := ⟨.hbm, 123, rfl⟩
abbrev main_call15_v0 : Ref sig .tc := ⟨.hbm, 124, rfl⟩
abbrev main_call15_v1 : Ref sig .tc := ⟨.hbm, 125, rfl⟩
abbrev main_v67 : Ref sig .tc := ⟨.hbm, 126, rfl⟩
abbrev main_cst_34 : Ref sig .tc := ⟨.hbm, 127, rfl⟩
abbrev main_cst_35 : Ref sig .tc := ⟨.hbm, 128, rfl⟩
abbrev main_call16_v0 : Ref sig .tc := ⟨.hbm, 129, rfl⟩
abbrev main_call16_v1 : Ref sig .tc := ⟨.hbm, 130, rfl⟩
abbrev main_v68 : Ref sig .tc := ⟨.hbm, 131, rfl⟩
abbrev main_cst_36 : Ref sig .tc := ⟨.hbm, 132, rfl⟩
abbrev main_cst_37 : Ref sig .tc := ⟨.hbm, 133, rfl⟩
abbrev main_call17_v0 : Ref sig .tc := ⟨.hbm, 134, rfl⟩
abbrev main_call17_v1 : Ref sig .tc := ⟨.hbm, 135, rfl⟩
abbrev main_v69 : Ref sig .tc := ⟨.hbm, 136, rfl⟩
abbrev main_cst_38 : Ref sig .tc := ⟨.hbm, 137, rfl⟩
abbrev main_cst_39 : Ref sig .tc := ⟨.hbm, 138, rfl⟩
abbrev main_call18_v0 : Ref sig .tc := ⟨.hbm, 139, rfl⟩
abbrev main_call18_v1 : Ref sig .tc := ⟨.hbm, 140, rfl⟩
abbrev main_v70 : Ref sig .tc := ⟨.hbm, 141, rfl⟩
abbrev main_cst_40 : Ref sig .tc := ⟨.hbm, 142, rfl⟩
abbrev main_cst_41 : Ref sig .tc := ⟨.hbm, 143, rfl⟩
abbrev main_call19_v0 : Ref sig .tc := ⟨.hbm, 144, rfl⟩
abbrev main_call19_v1 : Ref sig .tc := ⟨.hbm, 145, rfl⟩
abbrev main_v71 : Ref sig .tc := ⟨.hbm, 146, rfl⟩
abbrev main_cst_42 : Ref sig .tc := ⟨.hbm, 147, rfl⟩
abbrev main_cst_43 : Ref sig .tc := ⟨.hbm, 148, rfl⟩
abbrev main_call20_v0 : Ref sig .tc := ⟨.hbm, 149, rfl⟩
abbrev main_call20_v1 : Ref sig .tc := ⟨.hbm, 150, rfl⟩
abbrev main_v72 : Ref sig .tc := ⟨.hbm, 151, rfl⟩
abbrev main_cst_44 : Ref sig .tc := ⟨.hbm, 152, rfl⟩
abbrev main_cst_45 : Ref sig .tc := ⟨.hbm, 153, rfl⟩
abbrev main_call21_v0 : Ref sig .tc := ⟨.hbm, 154, rfl⟩
abbrev main_call21_v1 : Ref sig .tc := ⟨.hbm, 155, rfl⟩
abbrev main_v73 : Ref sig .tc := ⟨.hbm, 156, rfl⟩
abbrev main_cst_46 : Ref sig .tc := ⟨.hbm, 157, rfl⟩
abbrev main_cst_47 : Ref sig .tc := ⟨.hbm, 158, rfl⟩
abbrev main_call22_v0 : Ref sig .tc := ⟨.hbm, 159, rfl⟩
abbrev main_call22_v1 : Ref sig .tc := ⟨.hbm, 160, rfl⟩
abbrev main_v74 : Ref sig .tc := ⟨.hbm, 161, rfl⟩
abbrev main_c_48 : Ref sig .tc := ⟨.hbm, 162, rfl⟩
abbrev main_v75 : Ref sig .tc := ⟨.hbm, 163, rfl⟩
abbrev main_v76 : Ref sig .tc := ⟨.hbm, 164, rfl⟩
abbrev main_c_49 : Ref sig .tc := ⟨.hbm, 165, rfl⟩
abbrev main_v77 : Ref sig .tc := ⟨.hbm, 166, rfl⟩
abbrev main_v78 : Ref sig .tc := ⟨.hbm, 167, rfl⟩
abbrev main_c_50 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_c_51 : Ref sig .tc := ⟨.hbm, 175, rfl⟩
abbrev main_v85 : Ref sig .tc := ⟨.hbm, 176, rfl⟩
abbrev main_v86 : Ref sig .tc := ⟨.hbm, 177, rfl⟩
abbrev main_c_52 : Ref sig .tc := ⟨.hbm, 178, rfl⟩
abbrev main_v87 : Ref sig .tc := ⟨.hbm, 179, rfl⟩
abbrev main_v88 : Ref sig .tc := ⟨.hbm, 180, rfl⟩
abbrev main_c_53 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_c_54 : Ref sig .tc := ⟨.hbm, 186, rfl⟩
abbrev main_v93 : Ref sig .tc := ⟨.hbm, 187, rfl⟩
abbrev main_v94 : Ref sig .tc := ⟨.hbm, 188, rfl⟩
abbrev main_c_55 : Ref sig .tc := ⟨.hbm, 189, rfl⟩
abbrev main_v95 : Ref sig .tc := ⟨.hbm, 190, rfl⟩
abbrev main_v96 : Ref sig .tc := ⟨.hbm, 191, rfl⟩
abbrev main_c_56 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩

abbrev nD : Nat := 1
abbrev τ : Topo := Topo.v7x

variable {F : FTy → Type} [FloatOps F]
-- ==== Proof.KernelFrame.lean ====
/- The frame of `Kernel`, proved by hand: every fair run of @main ends with every argument array as it was and every semaphore
   counter at zero. The output window (6) is forgotten: nothing of what the kernel leaves there is named here (the value is
   proved of the idealized program, in the other modules). -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_r (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, e0]
    word_cmp
   : ∀ t : Fin grid0.N, cond0_0 (grid0.coords t) ↔ t.val % 72 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S72x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x72x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x4608 .i32 := Memref.whole cc0_scratch0
abbrev scM0_1 : Memref sig .tc .vmem S72x1024 .i32 := Memref.whole cc0_scratch1
abbrev scM0_2 : Memref sig .tc .vmem S2304x256 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 1348000 in
/-- The body's triple IN CASE A (`scf.if` 0 taken: points 0): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x4608 .i32) (harg8 : arg8.IsWhole) (arg9 : Memref sig .tc .vmem S72x1024 .i32) (harg9 : arg9.IsWhole) (arg10 : Memref sig .tc .vmem S2304x256 .i32) (harg10 : arg10.IsWhole) (hc0 : cond0_0 i)
    (x0 : Vec F S1 .f32) (x1 : Vec F S256x4608 .bf16) (x2 : Vec F S16x128 .bf16) (x3 : Vec F S2304x1024 .i8) (x4 : Vec F S72x1024 .i8) (x5 : Vec F S1x72x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10) K := by
    intro E K
    simp only [cc0_nf4_linear_eq_skeleton]; unfold cc0_nf4_linear_skel
    simp only [k0_part14_eq_skeleton, k0_part1_eq_skeleton, k0_part2_eq_skeleton, k0_part3_eq_skeleton, k0_part4_eq_skeleton, k0_part5_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

-- (the run's proof term is large: checking it walks past the default budget)
set_option maxHeartbeats 1016000 in
/-- The body's triple IN CASE B (`scf.if` 0 not taken: points 1, 2, … 71: 71 of 72): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x4608 .i32) (harg8 : arg8.IsWhole) (arg9 : Memref sig .tc .vmem S72x1024 .i32) (harg9 : arg9.IsWhole) (arg10 : Memref sig .tc .vmem S2304x256 .i32) (harg10 : arg10.IsWhole) (hc0 : ¬cond0_0 i)
    (x0 : Vec F S1 .f32) (x1 : Vec F S256x4608 .bf16) (x2 : Vec F S16x128 .bf16) (x3 : Vec F S2304x1024 .i8) (x4 : Vec F S72x1024 .i8) (x5 : Vec F S1x72x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_nf4_linear i arg1 harg1 arg2 harg2 arg3 harg3 arg4 harg4 arg5 harg5 arg6 harg6 arg7 harg7 arg8 harg8 arg9 harg9 arg10 harg10) K := by
    intro E K
    simp only [cc0_nf4_linear_eq_skeleton]; unfold cc0_nf4_linear_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 72 := lt_of_lt_of_eq t.isLt (show cfg0.N = 72 from N_0)
  by_cases h0 : t.val % 72 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_r m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Own

end
-- ==== Proof.Pay.lean ====
module

public import proofs.«01_k».proof.Proof.Gen.KernelIdeal.Skeleton
public import Idealize.ShloMosaic.Lib.Pointwise
public import Idealize.ShloMosaic.Lib.Bf16Pair

@[expose] public section

set_option maxRecDepth 16384

noncomputable section

namespace Cert.KernelIdeal.Own

open Idealize.ShloMosaic Cert.KernelIdeal Cert.KernelIdeal.Gen

/-- The dequantisation table of a block and half lane tile: each of the sixteen levels times the block's absmax, the absmax
    taken from the half of its word that the row's parity names. -/
theorem tab_apply (nf4 : FVec Ideal S16x128 .bf16) (am : Vec Ideal S1x2x128 .bf16) (r : Fin 16) (l : Fin 128) :
    k0_pay36 nf4 am (ix2 r l) = nf4 (ix2 r l) * am (ix3 0 (⟨r.val % 2, by omega⟩ : Fin 2) l) := by
  pointwise [k0_pay36]
  simp only [dite_eq_ite, ite_self]
  rcases Nat.mod_two_eq_zero_or_one r.val with h | h
  · rw [if_pos h]; simp only [h]; rfl
  · rw [if_neg (by omega)]; simp only [h]; rfl

/-- Sixteen rows stored as eight rows of pairs: pair `q`'s half `s` is row `2 q + s`. -/
theorem pairs_apply (g : FVec Ideal S16x128 .bf16) (q : Fin 8) (s : Fin 2) (l : Fin 128) :
    k0_pay40 g (ix3 q s l) = g (ix2 (⟨2 * q.val + s.val, by omega⟩ : Fin 16) l) := by
  pointwise [k0_pay40]
  have : s.val = 0 ∨ s.val = 1 := by omega
  rcases this with h | h
  · rw [if_pos (by omega)]; simp only [h]; rfl
  · rw [if_neg (by omega)]; simp only [h]

/-- A gather along the rows takes, at each element, the row its index names modulo sixteen. -/
theorem gather_apply (x : FVec Ideal S16x128 .bf16) (idx : IVec S16x128 32) (r : Fin 16) (l : Fin 128) :
    dynamicGather 0 x idx (ix2 r l) = x (ix2 (⟨(idx (ix2 r l)).toNat % 16, by omega⟩ : Fin 16) l) := by
  unfold dynamicGather
  congr 1
  funext b
  match b with
  | ⟨0, _⟩ => rfl
  | ⟨1, _⟩ => rfl

/-- The high four bits of a byte, read through a 32-bit word. -/
theorem hi_toNat (b : BitVec 8) :
    (IntOp.andi (IntOp.shrui ArithUnit.vector (BitVec.setWidth 32 b) 4#32) 15#32).toNat = b.toNat / 16 := by
  revert b; decide +kernel

/-- The low four bits of a byte, read through a 32-bit word. -/
theorem lo_toNat (b : BitVec 8) : (IntOp.andi (BitVec.setWidth 32 b) 15#32).toNat = b.toNat % 16 := by
  revert b; decide +kernel

/-- The column of a 256-column chunk that the permutation puts at column `c`: within its block of 64, the even columns first,
    the odd ones after. -/
def src (c : ℕ) : ℕ := 64 * (c / 64) + (if c % 64 < 32 then 2 * (c % 64) else 2 * (c % 64) - 63)

theorem src_lt {c n : ℕ} (h : c < 64 * n) : src c < 64 * n := by
  unfold src; split <;> omega

/-- The product of the packed rows' two operands at an index, each operand's row `k` being half `k % 2` of pair `k / 2`. -/
theorem dot_apply (xp : Vec Ideal S128x2x4608 .bf16) (wd : Vec Ideal S2304x2x256 .bf16) (i : Fin 256) (c : Fin 256) :
    k0_pay130 xp wd (ix2 i c) = ∑ k : Fin 4608, xp (ix3 (⟨i.val / 2, by omega⟩ : Fin 128) (⟨i.val % 2, by omega⟩ : Fin 2) k)
      * wd (ix3 (⟨k.val / 2, by omega⟩ : Fin 2304) (⟨k.val % 2, by omega⟩ : Fin 2) c) := by
  pointwise [k0_pay130]
  refine Finset.sum_congr rfl fun k _ => ?_
  have hi : i.val % 2 = 0 ∨ i.val % 2 = 1 := by omega
  have hk : k.val % 2 = 0 ∨ k.val % 2 = 1 := by omega
  rcases hi with h | h <;> rcases hk with h' | h' <;> simp only [h, h', reduceIte, Nat.one_ne_zero] <;> rfl

/-- The permutation's word at column `c` is the column `src c` names. -/
theorem perm_word (c : Fin 256) : IntOp.addi
            (IntOp.subi (BitVec.ofNat 32 ↑c)
              (Scalar.select
                (IntOp.andi
                  (IntOp.xori
                    (IntOp.cmpi CmpIPredicate.slt
                      (IntOp.remsi ArithUnit.vector (BitVec.ofNat 32 ↑c)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑c)
                      (Scalar.select (Scalar.cmpi CmpIPredicate.eq 64#32 0#32) 1#32 64#32))
                    0#32))
                (IntOp.addi
                  (IntOp.remsi ArithUnit.vector (BitVec.ofNat 32 ↑c)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑c)
                  (Scalar.select (Scalar.cmpi CmpIPredicate.eq 64#32 0#32) 1#32 64#32))))
            (Scalar.select
              (IntOp.cmpi CmpIPredicate.slt
                (Scalar.select
                  (IntOp.andi
                    (IntOp.xori
                      (IntOp.cmpi CmpIPredicate.slt
                        (IntOp.remsi ArithUnit.vector (BitVec.ofNat 32 ↑c)
                          (Scalar.select (Scalar.cmpi CmpIPredicate.eq 64#32 0#32) 1#32 64#32))
                        0#32)
                      (Scalar.cmpi CmpIPredicate.slt
                        (Scalar.select (Scalar.cmpi CmpIPredicate.eq 64#32 0#32) 1#32 64#32) 0#32))
                    (IntOp.cmpi CmpIPredicate.ne
                      (IntOp.remsi ArithUnit.vector (BitVec.ofNat 32 ↑c)
                        (Scalar.select (Scalar.cmpi CmpIPredicate.eq 64#32 0#32) 1#32 64#32))
                      0#32))
                  (IntOp.addi
                    (IntOp.remsi ArithUnit.vector (BitVec.ofNat 32 ↑c)
                      (Scalar.select (Scalar.cmpi CmpIPredicate.eq 64#32 0#32) 1#32 64#32))
                    (Scalar.select (Scalar.cmpi CmpIPredicate.eq 64#32 0#32) 1#32 64#32))
                  (IntOp.remsi ArithUnit.vector (BitVec.ofNat 32 ↑c)
                    (Scalar.select (Scalar.cmpi CmpIPredicate.eq 64#32 0#32) 1#32 64#32)))
                32#32)
              (IntOp.muli (2#32)
                (Scalar.select
                  (IntOp.andi
                    (IntOp.xori
                      (IntOp.cmpi CmpIPredicate.slt
                        (IntOp.remsi ArithUnit.vector (BitVec.ofNat 32 ↑c)
                          (Scalar.select (Scalar.cmpi CmpIPredicate.eq 64#32 0#32) 1#32 64#32))
                        0#32)
                      (Scalar.cmpi CmpIPredicate.slt
                        (Scalar.select (Scalar.cmpi CmpIPredicate.eq 64#32 0#32) 1#32 64#32) 0#32))
                    (IntOp.cmpi CmpIPredicate.ne
                      (IntOp.remsi ArithUnit.vector (BitVec.ofNat 32 ↑c)
                        (Scalar.select (Scalar.cmpi CmpIPredicate.eq 64#32 0#32) 1#32 64#32))
                      0#32))
                  (IntOp.addi
                    (IntOp.remsi ArithUnit.vector (BitVec.ofNat 32 ↑c)
                      (Scalar.select (Scalar.cmpi CmpIPredicate.eq 64#32 0#32) 1#32 64#32))
                    (Scalar.select (Scalar.cmpi CmpIPredicate.eq 64#32 0#32) 1#32 64#32))
                  (IntOp.remsi ArithUnit.vector (BitVec.ofNat 32 ↑c)
                    (Scalar.select (Scalar.cmpi CmpIPredicate.eq 64#32 0#32) 1#32 64#32))))
              (IntOp.addi
                (IntOp.subi
                  (IntOp.muli (2#32)
                    (Scalar.select
                      (IntOp.andi
                        (IntOp.xori
                          (IntOp.cmpi CmpIPredicate.slt
                            (IntOp.remsi ArithUnit.vector (BitVec.ofNat 32 ↑c)
                              (Scalar.select (Scalar.cmpi CmpIPredicate.eq 64#32 0#32) 1#32 64#32))
                            0#32)
                          (Scalar.cmpi CmpIPredicate.slt
                            (Scalar.select (Scalar.cmpi CmpIPredicate.eq 64#32 0#32) 1#32 64#32) 0#32))
                        (IntOp.cmpi CmpIPredicate.ne
                          (IntOp.remsi ArithUnit.vector (BitVec.ofNat 32 ↑c)
                            (Scalar.select (Scalar.cmpi CmpIPredicate.eq 64#32 0#32) 1#32 64#32))
                          0#32))
                      (IntOp.addi
                        (IntOp.remsi ArithUnit.vector (BitVec.ofNat 32 ↑c)
                          (Scalar.select (Scalar.cmpi CmpIPredicate.eq 64#32 0#32) 1#32 64#32))
                        (Scalar.select (Scalar.cmpi CmpIPredicate.eq 64#32 0#32) 1#32 64#32))
                      (IntOp.remsi ArithUnit.vector (BitVec.ofNat 32 ↑c)
                        (Scalar.select (Scalar.cmpi CmpIPredicate.eq 64#32 0#32) 1#32 64#32))))
                  64#32)
                1#32)) = BitVec.ofNat 32 (src c.val) := by
  revert c; decide +kernel

/-- A chunk of 256 columns times the permutation matrix is the chunk with its columns permuted. -/
theorem chunk_apply (x : Vec Ideal S256x256 .bf16) (i : Fin 256) (c : Fin 256) :
    k0_pay3 x (ix2 i c) = x (ix2 i (⟨src c.val, src_lt (n := 4) c.isLt⟩ : Fin 256)) := by
  pointwise [k0_pay3, k0_pay2]
  rw [Finset.sum_eq_single (⟨src c.val, src_lt (n := 4) c.isLt⟩ : Fin 256)]
  · rw [perm_word]
    simp [IntOp.cmpi, Scalar.select]
  · intro b _ hb
    rw [perm_word]
    have hne : ¬ (BitVec.ofNat 32 b.val = BitVec.ofNat 32 (src c.val)) := by
      intro h
      apply hb
      apply Fin.ext
      have h1 := congrArg BitVec.toNat h
      have h2 := src_lt (n := 4) c.isLt
      have h3 := b.isLt
      simp only [BitVec.toNat_ofNat] at h1
      rw [Nat.mod_eq_of_lt (by omega), Nat.mod_eq_of_lt (by omega)] at h1
      exact h1
    have hb' : (BitVec.ofNat 32 b.val == BitVec.ofNat 32 (src c.val)) = false := beq_eq_false_iff_ne.mpr hne
    simp [IntOp.cmpi, Scalar.select, hb']
  · intro h; exact absurd (Finset.mem_univ _) h

end Cert.KernelIdeal.Own
end
-- ==== Proof.Cell.lean ====
module

public import proofs.«01_k».proof.Proof.Pay

@[expose] public section

set_option maxRecDepth 16384

noncomputable section

namespace Cert.KernelIdeal.Own

open Idealize.ShloMosaic Cert.KernelIdeal Cert.KernelIdeal.Gen

/-- The row of packed codes that pair row `R`'s half `s` of the dequantised weights takes its code from: the pair rows come in
    blocks of 32, sixteen for the high codes and sixteen for the low ones. -/
def byteRow (R s : ℕ) : ℕ := 32 * (R / 32) + 16 * (R % 16 / 8) + 2 * (R % 8) + s

/-- The code of pair row `R`'s half `s` at column `c` of group `n`: the high four bits in a block's first sixteen pair rows,
    the low four in the other sixteen. -/
def nib (W : ℕ → ℕ → ℕ) (n R s c : ℕ) : ℕ :=
  if R % 32 < 16 then W (byteRow R s) (256 * n + c) / 16 else W (byteRow R s) (256 * n + c) % 16

/-- The dequantised weight there: the level of the code times the block's absmax. -/
def wdF (N A : ℕ → ℕ → EReal) (W : ℕ → ℕ → ℕ) (n R s c : ℕ) : EReal :=
  N (nib W n R s c) (c % 128) * A (R / 32) (256 * n + c)

/-- The buffer of dequantised weights of group `n`. -/
def WD (N A : ℕ → ℕ → EReal) (W : ℕ → ℕ → ℕ) (n : ℕ) : S2304x2x256.Idx → EReal :=
  fun y => wdF N A W n (y 0).val (y 1).val (y 2).val

/-- The four index vectors of a block's lane tile: high and low codes of its first and second sixteen rows. -/
def idxHi0 (w : Vec Ideal S32x128 .i8) : IVec S16x128 32 :=
  shapeCast S16x128 (shapeCast S16x128x1 (andi (shrui (k0_pay37 (F := Ideal) w) (broadcast S16x128 4#32)) (broadcast S16x128 15#32))
    shapeCasts_S16x128_S16x128x1) shapeCasts_S16x128x1_S16x128
@[inherit_doc idxHi0] def idxLo0 (w : Vec Ideal S32x128 .i8) : IVec S16x128 32 :=
  shapeCast S16x128 (shapeCast S16x128x1 (andi (k0_pay37 (F := Ideal) w) (broadcast S16x128 15#32))
    shapeCasts_S16x128_S16x128x1) shapeCasts_S16x128x1_S16x128
@[inherit_doc idxHi0] def idxHi1 (w : Vec Ideal S32x128 .i8) : IVec S16x128 32 :=
  shapeCast S16x128 (shapeCast S16x128x1 (andi (shrui (k0_pay41 (F := Ideal) w) (broadcast S16x128 4#32)) (broadcast S16x128 15#32))
    shapeCasts_S16x128_S16x128x1) shapeCasts_S16x128x1_S16x128
@[inherit_doc idxHi0] def idxLo1 (w : Vec Ideal S32x128 .i8) : IVec S16x128 32 :=
  shapeCast S16x128 (shapeCast S16x128x1 (andi (k0_pay41 (F := Ideal) w) (broadcast S16x128 15#32))
    shapeCasts_S16x128_S16x128x1) shapeCasts_S16x128x1_S16x128

theorem idxHi0_apply (w : Vec Ideal S32x128 .i8) (r : Fin 16) (l : Fin 128) :
    (idxHi0 w (ix2 r l)).toNat = (w (ix2 (⟨16 * 0 + r.val, by omega⟩ : Fin 32) l)).toNat / 16 := by
  pointwise [idxHi0, k0_pay37]
  rw [hi_toNat]

theorem idxLo0_apply (w : Vec Ideal S32x128 .i8) (r : Fin 16) (l : Fin 128) :
    (idxLo0 w (ix2 r l)).toNat = (w (ix2 (⟨16 * 0 + r.val, by omega⟩ : Fin 32) l)).toNat % 16 := by
  pointwise [idxLo0, k0_pay37]
  rw [lo_toNat]

theorem idxHi1_apply (w : Vec Ideal S32x128 .i8) (r : Fin 16) (l : Fin 128) :
    (idxHi1 w (ix2 r l)).toNat = (w (ix2 (⟨16 * 1 + r.val, by omega⟩ : Fin 32) l)).toNat / 16 := by
  pointwise [idxHi1, k0_pay41]
  rw [hi_toNat]

theorem idxLo1_apply (w : Vec Ideal S32x128 .i8) (r : Fin 16) (l : Fin 128) :
    (idxLo1 w (ix2 r l)).toNat = (w (ix2 (⟨16 * 1 + r.val, by omega⟩ : Fin 32) l)).toNat % 16 := by
  pointwise [idxLo1, k0_pay41]
  rw [lo_toNat]

/-- The table's levels, loaded whole, are unchanged by the cast to their own shape. -/
theorem levels_apply (x : Vec Ideal S16x128 .bf16) (r : Fin 16) (l : Fin 128) :
    k0_pay127 x (ix2 r l) = x (ix2 r l) := by
  pointwise [k0_pay127]

section
variable {nf4 : FVec Ideal S16x128 .bf16} {am : Vec Ideal S1x2x128 .bf16} {w : Vec Ideal S32x128 .i8}
  {N A : ℕ → ℕ → EReal} {W : ℕ → ℕ → ℕ} {n b lt : ℕ} (hlt : lt < 2)
  (hN : ∀ (r : Fin 16) (l : Fin 128), nf4 (ix2 r l) = N r.val l.val)
  (hA : ∀ (s : Fin 2) (l : Fin 128), am (ix3 (0 : Fin 1) s l) = A b (256 * n + 128 * lt + l.val))
  (hW : ∀ (r : Fin 32) (l : Fin 128), (w (ix2 r l)).toNat = W (32 * b + r.val) (256 * n + 128 * lt + l.val))

include hlt hN hA hW

/-- One stored piece is the group's weights on the piece's rectangle (high codes). -/
theorem cell_hi (h : ℕ) (hh : h < 2) (off : Fin 3 → ℕ) (hoff : off = ![32 * b + 8 * h, 0, 128 * lt])
    (inb : ∀ a, off a + S8x2x128.size a ≤ S2304x2x256.size a) (idx : IVec S16x128 32)
    (hidx : ∀ (r : Fin 16) (l : Fin 128), (idx (ix2 r l)).toNat = (w (ix2 (⟨16 * h + r.val, by omega⟩ : Fin 32) l)).toNat / 16)
    (x : S8x2x128.Idx) :
    k0_pay40 (dynamicGather 0 (k0_pay36 nf4 am) idx) x
      = WD N A W n ((Rect.unit (s := S2304x2x256) off S8x2x128.size inb).emb x) := by
  subst hoff
  obtain ⟨q, s, l, rfl⟩ : ∃ (q : Fin 8) (s : Fin 2) (l : Fin 128), x = ix3 q s l := ⟨x 0, x 1, x 2, eq_ix3 x⟩
  rw [pairs_apply, gather_apply, tab_apply, hN, hA]
  simp only [hidx, hW]
  have hl := l.isLt
  have hq := q.isLt
  have hs := s.isLt
  have hlt' := (w (ix2 (⟨16 * h + (2 * q.val + s.val), by omega⟩ : Fin 32) l)).isLt
  rw [hW] at hlt'
  dsimp only at hlt'
  have e0 : (((Rect.unit (s := S2304x2x256) _ S8x2x128.size inb).emb (ix3 q s l)) 0).val = 32 * b + 8 * h + q.val := by
    show 32 * b + 8 * h + 1 * q.val = _; omega
  have e1 : (((Rect.unit (s := S2304x2x256) _ S8x2x128.size inb).emb (ix3 q s l)) 1).val = s.val := by
    show 0 + 1 * s.val = _; omega
  have e2 : (((Rect.unit (s := S2304x2x256) _ S8x2x128.size inb).emb (ix3 q s l)) 2).val = 128 * lt + l.val := by
    show 128 * lt + 1 * l.val = _; omega
  unfold WD wdF nib byteRow
  rw [e0, e1, e2]
  rw [if_pos (by omega)]
  have a1 : 32 * ((32 * b + 8 * h + q.val) / 32) + 16 * ((32 * b + 8 * h + q.val) % 16 / 8) + 2 * ((32 * b + 8 * h + q.val) % 8) + s.val
      = 32 * b + (16 * h + (2 * q.val + s.val)) := by omega
  have a2 : 256 * n + (128 * lt + l.val) = 256 * n + 128 * lt + l.val := by omega
  have a3 : (32 * b + 8 * h + q.val) / 32 = b := by omega
  have a4 : (128 * lt + l.val) % 128 = l.val := by omega
  rw [a1, a2, a3, a4, Nat.mod_eq_of_lt (by omega)]

/-- One stored piece is the group's weights on the piece's rectangle (low codes). -/
theorem cell_lo (h : ℕ) (hh : h < 2) (off : Fin 3 → ℕ) (hoff : off = ![32 * b + 16 + 8 * h, 0, 128 * lt])
    (inb : ∀ a, off a + S8x2x128.size a ≤ S2304x2x256.size a) (idx : IVec S16x128 32)
    (hidx : ∀ (r : Fin 16) (l : Fin 128), (idx (ix2 r l)).toNat = (w (ix2 (⟨16 * h + r.val, by omega⟩ : Fin 32) l)).toNat % 16)
    (x : S8x2x128.Idx) :
    k0_pay40 (dynamicGather 0 (k0_pay36 nf4 am) idx) x
      = WD N A W n ((Rect.unit (s := S2304x2x256) off S8x2x128.size inb).emb x) := by
  subst hoff
  obtain ⟨q, s, l, rfl⟩ : ∃ (q : Fin 8) (s : Fin 2) (l : Fin 128), x = ix3 q s l := ⟨x 0, x 1, x 2, eq_ix3 x⟩
  rw [pairs_apply, gather_apply, tab_apply, hN, hA]
  simp only [hidx, hW]
  have hl := l.isLt
  have hq := q.isLt
  have hs := s.isLt
  have e0 : (((Rect.unit (s := S2304x2x256) _ S8x2x128.size inb).emb (ix3 q s l)) 0).val = 32 * b + 16 + 8 * h + q.val := by
    show 32 * b + 16 + 8 * h + 1 * q.val = _; omega
  have e1 : (((Rect.unit (s := S2304x2x256) _ S8x2x128.size inb).emb (ix3 q s l)) 1).val = s.val := by
    show 0 + 1 * s.val = _; omega
  have e2 : (((Rect.unit (s := S2304x2x256) _ S8x2x128.size inb).emb (ix3 q s l)) 2).val = 128 * lt + l.val := by
    show 128 * lt + 1 * l.val = _; omega
  unfold WD wdF nib byteRow
  rw [e0, e1, e2]
  rw [if_neg (by omega)]
  have a1 : 32 * ((32 * b + 16 + 8 * h + q.val) / 32) + 16 * ((32 * b + 16 + 8 * h + q.val) % 16 / 8) + 2 * ((32 * b + 16 + 8 * h + q.val) % 8) + s.val
      = 32 * b + (16 * h + (2 * q.val + s.val)) := by omega
  have a2 : 256 * n + (128 * lt + l.val) = 256 * n + 128 * lt + l.val := by omega
  have a3 : (32 * b + 16 + 8 * h + q.val) / 32 = b := by omega
  have a4 : (128 * lt + l.val) % 128 = l.val := by omega
  rw [a1, a2, a3, a4, Nat.mod_mod]

end

end Cert.KernelIdeal.Own
end
-- ==== Proof.Trips.lean ====
module

public import proofs.«01_k».proof.Proof.Cell
public import proofs.«01_k».proof.Proof.Gen.KernelIdeal.Loops

@[expose] public section

set_option maxRecDepth 16384

noncomputable section

namespace Cert.KernelIdeal.Own

open Idealize.ShloMosaic Cert.KernelIdeal Cert.KernelIdeal.Gen

/-- A load through a unit rectangle, at an index: the view's read at the offsets plus the index. -/
theorem load3 {v : Memref sig .tc .vmem S72x2x1024 .bf16} (X : BufTy.Contents (Elt Ideal) v.view.ty) (A : ℕ → ℕ → EReal)
    (hA : ∀ y, v.view.read (Elt Ideal) X y = A (y 0).val (y 2).val) (b n lt : ℕ) (off : Fin 3 → ℕ)
    (hoff : off = ![b, 0, 256 * n + 128 * lt]) (inb : ∀ a, off a + S1x2x128.size a ≤ S72x2x1024.size a) (s : Fin 2) (l : Fin 128) :
    View.readAt (Elt Ideal) v.view (Rect.unit (s := S72x2x1024) off S1x2x128.size inb).toLoadRect X (ix3 (0 : Fin 1) s l)
      = A b (256 * n + 128 * lt + l.val) := by
  subst hoff
  rw [View.readAt_apply, hA]
  have e0 : (((Rect.unit (s := S72x2x1024) _ S1x2x128.size inb).toLoadRect.idx (ix3 (0 : Fin 1) s l)) 0).val = b := by
    show b + 1 * 0 = _; omega
  have e2 : (((Rect.unit (s := S72x2x1024) _ S1x2x128.size inb).toLoadRect.idx (ix3 (0 : Fin 1) s l)) 2).val
      = 256 * n + 128 * lt + l.val := by
    show 256 * n + 128 * lt + 1 * l.val = _; omega
  rw [e0, e2]

@[inherit_doc load3]
theorem load2 {v : Memref sig .tc .vmem S2304x1024 .i8} (X : BufTy.Contents (Elt Ideal) v.view.ty) (W : ℕ → ℕ → ℕ)
    (hW : ∀ y, (v.view.read (Elt Ideal) X y : BitVec 8).toNat = W (y 0).val (y 1).val) (b n lt : ℕ) (off : Fin 2 → ℕ)
    (hoff : off = ![32 * b, 256 * n + 128 * lt]) (inb : ∀ a, off a + S32x128.size a ≤ S2304x1024.size a) (r : Fin 32) (l : Fin 128) :
    (View.readAt (Elt Ideal) v.view (Rect.unit (s := S2304x1024) off S32x128.size inb).toLoadRect X (ix2 r l) : BitVec 8).toNat
      = W (32 * b + r.val) (256 * n + 128 * lt + l.val) := by
  subst hoff
  rw [View.readAt_apply, hW]
  have e0 : (((Rect.unit (s := S2304x1024) _ S32x128.size inb).toLoadRect.idx (ix2 r l)) 0).val = 32 * b + r.val := by
    show 32 * b + 1 * r.val = _; omega
  have e1 : (((Rect.unit (s := S2304x1024) _ S32x128.size inb).toLoadRect.idx (ix2 r l)) 1).val
      = 256 * n + 128 * lt + l.val := by
    show 256 * n + 128 * lt + 1 * l.val = _; omega
  rw [e0, e1]

variable (𝒱 : Variants) (c : Dev nD) (bd : Option 𝒱.V) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x2x4608 .bf16) (harg8 : arg8.IsWhole) (arg9 : Memref sig .tc .vmem S72x2x1024 .bf16) (harg9 : arg9.IsWhole) (arg10 : Memref sig .tc .vmem S2304x2x256 .bf16) (harg10 : arg10.IsWhole)

variable (N A : ℕ → ℕ → EReal) (W : ℕ → ℕ → ℕ)

/-- What a trip of the loop over group 0's lane tile 0 stores: on each of its four rectangles, the group's dequantised weights. -/
theorem trip1_spec (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 v66 v74_lo v75 X4 X9 k, ∀ x, p.2 x = WD N A W 0 (p.1.emb x) := by
  unfold tripL_k0_t1 trip_k0_t1
  dsimp only
  have A0 := load3 (v := arg9) X9 A hA k.val 0 0 (k0_off1 k) (k0_off1_eq k) (k0_off1_inb k)
  have W0 := load2 (v := arg4) X4 W hW k.val 0 0 (k0_off2 k) (k0_off2_eq k) (k0_off2_inb k)
  intro p hp
  simp only [List.mem_cons, List.not_mem_nil, or_false] at hp
  rcases hp with rfl | rfl | rfl | rfl
  · exact cell_lo (nf4 := (k0_pay127 v75)) (lt := 0) (by decide) (fun r l => (levels_apply v75 r l).trans (hN r l)) A0 W0 1 (by decide) _ (k0_off3_eq k 1 1) (k0_off3_inb k 1 1)
      (idxLo1 _) (idxLo1_apply _)
  · exact cell_hi (nf4 := (k0_pay127 v75)) (lt := 0) (by decide) (fun r l => (levels_apply v75 r l).trans (hN r l)) A0 W0 1 (by decide) _ (k0_off3_eq k 0 1) (k0_off3_inb k 0 1)
      (idxHi1 _) (idxHi1_apply _)
  · exact cell_lo (nf4 := (k0_pay127 v75)) (lt := 0) (by decide) (fun r l => (levels_apply v75 r l).trans (hN r l)) A0 W0 0 (by decide) _ (k0_off3_eq k 1 0) (k0_off3_inb k 1 0)
      (idxLo0 _) (idxLo0_apply _)
  · exact cell_hi (nf4 := (k0_pay127 v75)) (lt := 0) (by decide) (fun r l => (levels_apply v75 r l).trans (hN r l)) A0 W0 0 (by decide) _ (k0_off3_eq k 0 0) (k0_off3_inb k 0 0)
      (idxHi0 _) (idxHi0_apply _)

/-- What a trip of the loop over group 0's lane tile 1 stores: on each of its four rectangles, the group's dequantised weights. -/
theorem trip2_spec (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 arg10 harg10 v66 v74_lo v75 X4 X9 k, ∀ x, p.2 x = WD N A W 0 (p.1.emb x) := by
  unfold tripL_k0_t2 trip_k0_t2
  dsimp only
  have A0 := load3 (v := arg9) X9 A hA k.val 0 1 (k0_off4 k) (k0_off4_eq k) (k0_off4_inb k)
  have W0 := load2 (v := arg4) X4 W hW k.val 0 1 (k0_off5 k) (k0_off5_eq k) (k0_off5_inb k)
  intro p hp
  simp only [List.mem_cons, List.not_mem_nil, or_false] at hp
  rcases hp with rfl | rfl | rfl | rfl
  · exact cell_lo (nf4 := (k0_pay127 v75)) (lt := 1) (by decide) (fun r l => (levels_apply v75 r l).trans (hN r l)) A0 W0 1 (by decide) _ (k0_off6_eq k 1 1) (k0_off6_inb k 1 1)
      (idxLo1 _) (idxLo1_apply _)
  · exact cell_hi (nf4 := (k0_pay127 v75)) (lt := 1) (by decide) (fun r l => (levels_apply v75 r l).trans (hN r l)) A0 W0 1 (by decide) _ (k0_off6_eq k 0 1) (k0_off6_inb k 0 1)
      (idxHi1 _) (idxHi1_apply _)
  · exact cell_lo (nf4 := (k0_pay127 v75)) (lt := 1) (by decide) (fun r l => (levels_apply v75 r l).trans (hN r l)) A0 W0 0 (by decide) _ (k0_off6_eq k 1 0) (k0_off6_inb k 1 0)
      (idxLo0 _) (idxLo0_apply _)
  · exact cell_hi (nf4 := (k0_pay127 v75)) (lt := 1) (by decide) (fun r l => (levels_apply v75 r l).trans (hN r l)) A0 W0 0 (by decide) _ (k0_off6_eq k 0 0) (k0_off6_inb k 0 0)
      (idxHi0 _) (idxHi0_apply _)

/-- What a trip of the loop over group 1's lane tile 0 stores: on each of its four rectangles, the group's dequantised weights. -/
theorem trip3_spec (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t3_loop.trips) :
    ∀ p ∈ tripL_k0_t3 (F := Ideal) 𝒱 c bd i arg1 harg1 arg2 harg2 arg3 harg3 arg4 harg4 arg5 harg5 arg6 harg6 arg7 harg7 arg8 harg8 arg9 harg9 arg10 harg10 v66 v74_lo v75 X4 X9 k, ∀ x, p.2 x = WD N A W 1 (p.1.emb x) := by
  unfold tripL_k0_t3 trip_k0_t3
  dsimp only
  have A0 := load3 (v := arg9) X9 A hA k.val 1 0 (k0_off7 k) (k0_off7_eq k) (k0_off7_inb k)
  have W0 := load2 (v := arg4) X4 W hW k.val 1 0 (k0_off8 k) (k0_off8_eq k) (k0_off8_inb k)
  intro p hp
  simp only [List.mem_cons, List.not_mem_nil, or_false] at hp
  rcases hp with rfl | rfl | rfl | rfl
  · exact cell_lo (nf4 := (k0_pay127 v75)) (lt := 0) (by decide) (fun r l => (levels_apply v75 r l).trans (hN r l)) A0 W0 1 (by decide) _ (k0_off9_eq k 1 1) (k0_off9_inb k 1 1)
      (idxLo1 _) (idxLo1_apply _)
  · exact cell_hi (nf4 := (k0_pay127 v75)) (lt := 0) (by decide) (fun r l => (levels_apply v75 r l).trans (hN r l)) A0 W0 1 (by decide) _ (k0_off9_eq k 0 1) (k0_off9_inb k 0 1)
      (idxHi1 _) (idxHi1_apply _)
  · exact cell_lo (nf4 := (k0_pay127 v75)) (lt := 0) (by decide) (fun r l => (levels_apply v75 r l).trans (hN r l)) A0 W0 0 (by decide) _ (k0_off9_eq k 1 0) (k0_off9_inb k 1 0)
      (idxLo0 _) (idxLo0_apply _)
  · exact cell_hi (nf4 := (k0_pay127 v75)) (lt := 0) (by decide) (fun r l => (levels_apply v75 r l).trans (hN r l)) A0 W0 0 (by decide) _ (k0_off9_eq k 0 0) (k0_off9_inb k 0 0)
      (idxHi0 _) (idxHi0_apply _)

/-- What a trip of the loop over group 1's lane tile 1 stores: on each of its four rectangles, the group's dequantised weights. -/
theorem trip4_spec (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t4_loop.trips) :
    ∀ p ∈ tripL_k0_t4 (F := Ideal) 𝒱 c bd i arg1 harg1 arg2 harg2 arg3 harg3 arg4 harg4 arg5 harg5 arg6 harg6 arg7 harg7 arg8 harg8 arg9 harg9 arg10 harg10 v66 v74_lo v75 X4 X9 k, ∀ x, p.2 x = WD N A W 1 (p.1.emb x) := by
  unfold tripL_k0_t4 trip_k0_t4
  dsimp only
  have A0 := load3 (v := arg9) X9 A hA k.val 1 1 (k0_off10 k) (k0_off10_eq k) (k0_off10_inb k)
  have W0 := load2 (v := arg4) X4 W hW k.val 1 1 (k0_off11 k) (k0_off11_eq k) (k0_off11_inb k)
  intro p hp
  simp only [List.mem_cons, List.not_mem_nil, or_false] at hp
  rcases hp with rfl | rfl | rfl | rfl
  · exact cell_lo (nf4 := (k0_pay127 v75)) (lt := 1) (by decide) (fun r l => (levels_apply v75 r l).trans (hN r l)) A0 W0 1 (by decide) _ (k0_off12_eq k 1 1) (k0_off12_inb k 1 1)
      (idxLo1 _) (idxLo1_apply _)
  · exact cell_hi (nf4 := (k0_pay127 v75)) (lt := 1) (by decide) (fun r l => (levels_apply v75 r l).trans (hN r l)) A0 W0 1 (by decide) _ (k0_off12_eq k 0 1) (k0_off12_inb k 0 1)
      (idxHi1 _) (idxHi1_apply _)
  · exact cell_lo (nf4 := (k0_pay127 v75)) (lt := 1) (by decide) (fun r l => (levels_apply v75 r l).trans (hN r l)) A0 W0 0 (by decide) _ (k0_off12_eq k 1 0) (k0_off12_inb k 1 0)
      (idxLo0 _) (idxLo0_apply _)
  · exact cell_hi (nf4 := (k0_pay127 v75)) (lt := 1) (by decide) (fun r l => (levels_apply v75 r l).trans (hN r l)) A0 W0 0 (by decide) _ (k0_off12_eq k 0 0) (k0_off12_inb k 0 0)
      (idxHi0 _) (idxHi0_apply _)

/-- What a trip of the loop over group 2's lane tile 0 stores: on each of its four rectangles, the group's dequantised weights. -/
theorem trip5_spec (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t5_loop.trips) :
    ∀ p ∈ tripL_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 k, ∀ x, p.2 x = WD N A W 2 (p.1.emb x) := by
  unfold tripL_k0_t5 trip_k0_t5
  dsimp only
  have A0 := load3 (v := arg9) X9 A hA k.val 2 0 (k0_off13 k) (k0_off13_eq k) (k0_off13_inb k)
  have W0 := load2 (v := arg4) X4 W hW k.val 2 0 (k0_off14 k) (k0_off14_eq k) (k0_off14_inb k)
  intro p hp
  simp only [List.mem_cons, List.not_mem_nil, or_false] at hp
  rcases hp with rfl | rfl | rfl | rfl
  · exact cell_lo (nf4 := v76) (lt := 0) (by decide) hN A0 W0 1 (by decide) _ (k0_off15_eq k 1 1) (k0_off15_inb k 1 1)
      (idxLo1 _) (idxLo1_apply _)
  · exact cell_hi (nf4 := v76) (lt := 0) (by decide) hN A0 W0 1 (by decide) _ (k0_off15_eq k 0 1) (k0_off15_inb k 0 1)
      (idxHi1 _) (idxHi1_apply _)
  · exact cell_lo (nf4 := v76) (lt := 0) (by decide) hN A0 W0 0 (by decide) _ (k0_off15_eq k 1 0) (k0_off15_inb k 1 0)
      (idxLo0 _) (idxLo0_apply _)
  · exact cell_hi (nf4 := v76) (lt := 0) (by decide) hN A0 W0 0 (by decide) _ (k0_off15_eq k 0 0) (k0_off15_inb k 0 0)
      (idxHi0 _) (idxHi0_apply _)

/-- What a trip of the loop over group 2's lane tile 1 stores: on each of its four rectangles, the group's dequantised weights. -/
theorem trip6_spec (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t6_loop.trips) :
    ∀ p ∈ tripL_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 k, ∀ x, p.2 x = WD N A W 2 (p.1.emb x) := by
  unfold tripL_k0_t6 trip_k0_t6
  dsimp only
  have A0 := load3 (v := arg9) X9 A hA k.val 2 1 (k0_off16 k) (k0_off16_eq k) (k0_off16_inb k)
  have W0 := load2 (v := arg4) X4 W hW k.val 2 1 (k0_off17 k) (k0_off17_eq k) (k0_off17_inb k)
  intro p hp
  simp only [List.mem_cons, List.not_mem_nil, or_false] at hp
  rcases hp with rfl | rfl | rfl | rfl
  · exact cell_lo (nf4 := v76) (lt := 1) (by decide) hN A0 W0 1 (by decide) _ (k0_off18_eq k 1 1) (k0_off18_inb k 1 1)
      (idxLo1 _) (idxLo1_apply _)
  · exact cell_hi (nf4 := v76) (lt := 1) (by decide) hN A0 W0 1 (by decide) _ (k0_off18_eq k 0 1) (k0_off18_inb k 0 1)
      (idxHi1 _) (idxHi1_apply _)
  · exact cell_lo (nf4 := v76) (lt := 1) (by decide) hN A0 W0 0 (by decide) _ (k0_off18_eq k 1 0) (k0_off18_inb k 1 0)
      (idxLo0 _) (idxLo0_apply _)
  · exact cell_hi (nf4 := v76) (lt := 1) (by decide) hN A0 W0 0 (by decide) _ (k0_off18_eq k 0 0) (k0_off18_inb k 0 0)
      (idxHi0 _) (idxHi0_apply _)

/-- What a trip of the loop over group 3's lane tile 0 stores: on each of its four rectangles, the group's dequantised weights. -/
theorem trip7_spec (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t7_loop.trips) :
    ∀ p ∈ tripL_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 k, ∀ x, p.2 x = WD N A W 3 (p.1.emb x) := by
  unfold tripL_k0_t7 trip_k0_t7
  dsimp only
  have A0 := load3 (v := arg9) X9 A hA k.val 3 0 (k0_off19 k) (k0_off19_eq k) (k0_off19_inb k)
  have W0 := load2 (v := arg4) X4 W hW k.val 3 0 (k0_off20 k) (k0_off20_eq k) (k0_off20_inb k)
  intro p hp
  simp only [List.mem_cons, List.not_mem_nil, or_false] at hp
  rcases hp with rfl | rfl | rfl | rfl
  · exact cell_lo (nf4 := v76) (lt := 0) (by decide) hN A0 W0 1 (by decide) _ (k0_off21_eq k 1 1) (k0_off21_inb k 1 1)
      (idxLo1 _) (idxLo1_apply _)
  · exact cell_hi (nf4 := v76) (lt := 0) (by decide) hN A0 W0 1 (by decide) _ (k0_off21_eq k 0 1) (k0_off21_inb k 0 1)
      (idxHi1 _) (idxHi1_apply _)
  · exact cell_lo (nf4 := v76) (lt := 0) (by decide) hN A0 W0 0 (by decide) _ (k0_off21_eq k 1 0) (k0_off21_inb k 1 0)
      (idxLo0 _) (idxLo0_apply _)
  · exact cell_hi (nf4 := v76) (lt := 0) (by decide) hN A0 W0 0 (by decide) _ (k0_off21_eq k 0 0) (k0_off21_inb k 0 0)
      (idxHi0 _) (idxHi0_apply _)

/-- What a trip of the loop over group 3's lane tile 1 stores: on each of its four rectangles, the group's dequantised weights. -/
theorem trip8_spec (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (k : Fin k0_t8_loop.trips) :
    ∀ p ∈ tripL_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 k, ∀ x, p.2 x = WD N A W 3 (p.1.emb x) := by
  unfold tripL_k0_t8 trip_k0_t8
  dsimp only
  have A0 := load3 (v := arg9) X9 A hA k.val 3 1 (k0_off22 k) (k0_off22_eq k) (k0_off22_inb k)
  have W0 := load2 (v := arg4) X4 W hW k.val 3 1 (k0_off23 k) (k0_off23_eq k) (k0_off23_inb k)
  intro p hp
  simp only [List.mem_cons, List.not_mem_nil, or_false] at hp
  rcases hp with rfl | rfl | rfl | rfl
  · exact cell_lo (nf4 := v76) (lt := 1) (by decide) hN A0 W0 1 (by decide) _ (k0_off24_eq k 1 1) (k0_off24_inb k 1 1)
      (idxLo1 _) (idxLo1_apply _)
  · exact cell_hi (nf4 := v76) (lt := 1) (by decide) hN A0 W0 1 (by decide) _ (k0_off24_eq k 0 1) (k0_off24_inb k 0 1)
      (idxHi1 _) (idxHi1_apply _)
  · exact cell_lo (nf4 := v76) (lt := 1) (by decide) hN A0 W0 0 (by decide) _ (k0_off24_eq k 1 0) (k0_off24_inb k 1 0)
      (idxLo0 _) (idxLo0_apply _)
  · exact cell_hi (nf4 := v76) (lt := 1) (by decide) hN A0 W0 0 (by decide) _ (k0_off24_eq k 0 0) (k0_off24_inb k 0 0)
      (idxHi0 _) (idxHi0_apply _)

end Cert.KernelIdeal.Own
end
-- ==== Proof.Weights.lean ====
/- What the dequantisation loops leave in the weight buffer: after the two loops over a column group's blocks the whole buffer holds
   the group's dequantised weights, whatever it held before. -/
module

public import proofs.«01_k».proof.Proof.Trips
public import Idealize.ShloMosaic.Lib.VecWindow

@[expose] public section

set_option maxRecDepth 16384

noncomputable section

namespace Cert.KernelIdeal.Own

open Idealize.ShloMosaic Cert.KernelIdeal Cert.KernelIdeal.Gen

/-- An index lies in an 8 × 2 × 128 rectangle at the given offsets. -/
theorem mem_tile (off : Fin 3 → ℕ) (R C : ℕ) (hoff : off = ![R, 0, C]) (inb : ∀ a, off a + S8x2x128.size a ≤ S2304x2x256.size a)
    (y : S2304x2x256.Idx) (h0 : R ≤ (y 0).val) (h0' : (y 0).val < R + 8) (h2 : C ≤ (y 2).val) (h2' : (y 2).val < C + 128) :
    y ∈ (Rect.unit (s := S2304x2x256) off S8x2x128.size inb).set := by
  subst hoff
  rw [Rect.mem_set_unit]
  intro a
  match a with
  | ⟨0, _⟩ => exact ⟨h0, h0'⟩
  | ⟨1, _⟩ => exact ⟨Nat.zero_le _, by have h : (y 1).val < 2 := (y 1).isLt; show (y 1).val < 0 + 2; omega⟩
  | ⟨2, _⟩ => exact ⟨h2, h2'⟩

variable (𝒱 : Variants) (c : Dev nD) (bd : Option 𝒱.V) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x2x4608 .bf16) (harg8 : arg8.IsWhole) (arg9 : Memref sig .tc .vmem S72x2x1024 .bf16) (harg9 : arg9.IsWhole) (arg10 : Memref sig .tc .vmem S2304x2x256 .bf16) (harg10 : arg10.IsWhole)

variable (N A : ℕ → ℕ → EReal) (W : ℕ → ℕ → ℕ)

/-- The four rectangles of trip `k` of the loop over group 0's lane tile 0 cover block `k`'s pair rows of the lane tile. -/
theorem trip1_cover (v66 v74_lo : FVec Ideal S72x256 .bf16) (v75 : Vec Ideal S16x128 .bf16) (X4 : BufTy.Contents (Elt Ideal) arg4.view.ty) (X9 : BufTy.Contents (Elt Ideal) arg9.view.ty) (k : Fin k0_t1_loop.trips) (y : S2304x2x256.Idx) (hy : (y 0).val / 32 = k.val)
    (hl : (y 2).val / 128 = 0) :
    ∃ p ∈ tripL_k0_t1 (F := Ideal) 𝒱 c bd i arg1 harg1 arg2 harg2 arg3 harg3 arg4 harg4 arg5 harg5 arg6 harg6 arg7 harg7 arg8 harg8 arg9 harg9 arg10 harg10 v66 v74_lo v75 X4 X9 k, y ∈ p.1.set := by
  unfold tripL_k0_t1 trip_k0_t1
  dsimp only
  by_cases h0 : 32 * k.val + 24 ≤ (y 0).val ∧ (y 0).val < 32 * k.val + 24 + 8
  · exact  List.exists_mem_cons_of _ (mem_tile _ (32 * k.val + 24) 0 ((k0_off3_eq k 1 1).trans (by simp [Nat.add_assoc])) (k0_off3_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 0 ((k0_off3_eq k 0 1).trans (by simp [Nat.add_assoc])) (k0_off3_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 0 ((k0_off3_eq k 1 0).trans (by simp [Nat.add_assoc])) (k0_off3_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 0 ((k0_off3_eq k 0 0).trans (by simp [Nat.add_assoc])) (k0_off3_inb k 0 0) y h3.1 h3.2 (by omega) (by omega))
  omega

/-- Every rectangle the loop over group 0's lane tile 0 stores holds the group's dequantised weights. -/
theorem pieces1 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t1 (F := Ideal) 𝒱 c bd i arg1 harg1 arg2 harg2 arg3 harg3 arg4 harg4 arg5 harg5 arg6 harg6 arg7 harg7 arg8 harg8 arg9 harg9 arg10 harg10 v66 v74_lo v75 X4 X9 k0_t1_loop.trips, ∀ x, p.2 x = WD N A W 0 (p.1.emb x) := by
  have key : ∀ j, j ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 v66 v74_lo v75 X4 X9 j, ∀ x, p.2 x = WD N A W 0 (p.1.emb x) := by
    intro j
    induction j with
    | zero => intro _ p hp; simp [pb_k0_t1] at hp
    | succ j ih =>
      intro hj p hp
      have e := pb_k0_t1_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t1_loop.trips).val + 1 = j + 1 from rfl] at e
      rw [e] at hp
      rcases List.mem_append.mp hp with hp | hp
      · exact trip1_spec 𝒱 c bd i arg1 harg1 arg2 harg2 arg3 harg3 arg4 harg4 arg5 harg5 arg6 harg6 arg7 harg7 arg8 harg8 arg9 harg9 arg10 harg10 N A W v66 v74_lo v75 X4 X9 hN hA hW ⟨j, hj⟩ p hp
      · exact ih (by omega) p hp
  exact key _ le_rfl

/-- The rectangles of the loop over group 0's lane tile 0 cover the lane tile. -/
theorem cover1 (v66 v74_lo : FVec Ideal S72x256 .bf16) (v75 : Vec Ideal S16x128 .bf16) (X4 : BufTy.Contents (Elt Ideal) arg4.view.ty) (X9 : BufTy.Contents (Elt Ideal) arg9.view.ty) (y : S2304x2x256.Idx) (hl : (y 2).val / 128 = 0) :
    ∃ p ∈ pb_k0_t1 (F := Ideal) 𝒱 c bd i arg1 harg1 arg2 harg2 arg3 harg3 arg4 harg4 arg5 harg5 arg6 harg6 arg7 harg7 arg8 harg8 arg9 harg9 arg10 harg10 v66 v74_lo v75 X4 X9 k0_t1_loop.trips, y ∈ p.1.set := by
  have h72 : k0_t1_loop.trips = 72 := Nat.le_antisymm k0_t1_abs.2.1 (by decide)
  have e0 : (y 0).val < 2304 := (y 0).isLt
  have key : ∀ j, j ≤ k0_t1_loop.trips → (y 0).val / 32 < j → ∃ p ∈ pb_k0_t1 (F := Ideal) 𝒱 c bd i arg1 harg1 arg2 harg2 arg3 harg3 arg4 harg4 arg5 harg5 arg6 harg6 arg7 harg7 arg8 harg8 arg9 harg9 arg10 harg10 v66 v74_lo v75 X4 X9 j, y ∈ p.1.set := by
    intro j
    induction j with
    | zero => intro _ h; omega
    | succ j ih =>
      intro hj hlt
      have e := pb_k0_t1_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t1_loop.trips).val + 1 = j + 1 from rfl] at e
      rw [e]
      by_cases hk : (y 0).val / 32 = j
      · obtain ⟨p, hp, hy⟩ := trip1_cover 𝒱 c bd i arg1 harg1 arg2 harg2 arg3 harg3 arg4 harg4 arg5 harg5 arg6 harg6 arg7 harg7 arg8 harg8 arg9 harg9 arg10 harg10 v66 v74_lo v75 X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- The four rectangles of trip `k` of the loop over group 0's lane tile 1 cover block `k`'s pair rows of the lane tile. -/
theorem trip2_cover (v66 v74_lo : FVec Ideal S72x256 .bf16) (v75 : Vec Ideal S16x128 .bf16) (X4 : BufTy.Contents (Elt Ideal) arg4.view.ty) (X9 : BufTy.Contents (Elt Ideal) arg9.view.ty) (k : Fin k0_t2_loop.trips) (y : S2304x2x256.Idx) (hy : (y 0).val / 32 = k.val)
    (hl : (y 2).val / 128 = 1) :
    ∃ p ∈ tripL_k0_t2 (F := Ideal) 𝒱 c bd i arg1 harg1 arg2 harg2 arg3 harg3 arg4 harg4 arg5 harg5 arg6 harg6 arg7 harg7 arg8 harg8 arg9 harg9 arg10 harg10 v66 v74_lo v75 X4 X9 k, y ∈ p.1.set := by
  unfold tripL_k0_t2 trip_k0_t2
  dsimp only
  by_cases h0 : 32 * k.val + 24 ≤ (y 0).val ∧ (y 0).val < 32 * k.val + 24 + 8
  · exact  List.exists_mem_cons_of _ (mem_tile _ (32 * k.val + 24) 128 ((k0_off6_eq k 1 1).trans (by simp [Nat.add_assoc])) (k0_off6_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 128 ((k0_off6_eq k 0 1).trans (by simp [Nat.add_assoc])) (k0_off6_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 128 ((k0_off6_eq k 1 0).trans (by simp [Nat.add_assoc])) (k0_off6_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 128 ((k0_off6_eq k 0 0).trans (by simp [Nat.add_assoc])) (k0_off6_inb k 0 0) y h3.1 h3.2 (by omega) (by omega))
  omega

/-- Every rectangle the loop over group 0's lane tile 1 stores holds the group's dequantised weights. -/
theorem pieces2 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t2 (F := Ideal) 𝒱 c bd i arg1 harg1 arg2 harg2 arg3 harg3 arg4 harg4 arg5 harg5 arg6 harg6 arg7 harg7 arg8 harg8 arg9 harg9 arg10 harg10 v66 v74_lo v75 X4 X9 k0_t2_loop.trips, ∀ x, p.2 x = WD N A W 0 (p.1.emb x) := by
  have key : ∀ j, j ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 v66 v74_lo v75 X4 X9 j, ∀ x, p.2 x = WD N A W 0 (p.1.emb x) := by
    intro j
    induction j with
    | zero => intro _ p hp; simp [pb_k0_t2] at hp
    | succ j ih =>
      intro hj p hp
      have e := pb_k0_t2_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t2_loop.trips).val + 1 = j + 1 from rfl] at e
      rw [e] at hp
      rcases List.mem_append.mp hp with hp | hp
      · exact trip2_spec 𝒱 c bd i arg1 harg1 arg2 harg2 arg3 harg3 arg4 harg4 arg5 harg5 arg6 harg6 arg7 harg7 arg8 harg8 arg9 harg9 arg10 harg10 N A W v66 v74_lo v75 X4 X9 hN hA hW ⟨j, hj⟩ p hp
      · exact ih (by omega) p hp
  exact key _ le_rfl

/-- The rectangles of the loop over group 0's lane tile 1 cover the lane tile. -/
theorem cover2 (v66 v74_lo : FVec Ideal S72x256 .bf16) (v75 : Vec Ideal S16x128 .bf16) (X4 : BufTy.Contents (Elt Ideal) arg4.view.ty) (X9 : BufTy.Contents (Elt Ideal) arg9.view.ty) (y : S2304x2x256.Idx) (hl : (y 2).val / 128 = 1) :
    ∃ p ∈ pb_k0_t2 (F := Ideal) 𝒱 c bd i arg1 harg1 arg2 harg2 arg3 harg3 arg4 harg4 arg5 harg5 arg6 harg6 arg7 harg7 arg8 harg8 arg9 harg9 arg10 harg10 v66 v74_lo v75 X4 X9 k0_t2_loop.trips, y ∈ p.1.set := by
  have h72 : k0_t2_loop.trips = 72 := Nat.le_antisymm k0_t2_abs.2.1 (by decide)
  have e0 : (y 0).val < 2304 := (y 0).isLt
  have key : ∀ j, j ≤ k0_t2_loop.trips → (y 0).val / 32 < j → ∃ p ∈ pb_k0_t2 (F := Ideal) 𝒱 c bd i arg1 harg1 arg2 harg2 arg3 harg3 arg4 harg4 arg5 harg5 arg6 harg6 arg7 harg7 arg8 harg8 arg9 harg9 arg10 harg10 v66 v74_lo v75 X4 X9 j, y ∈ p.1.set := by
    intro j
    induction j with
    | zero => intro _ h; omega
    | succ j ih =>
      intro hj hlt
      have e := pb_k0_t2_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t2_loop.trips).val + 1 = j + 1 from rfl] at e
      rw [e]
      by_cases hk : (y 0).val / 32 = j
      · obtain ⟨p, hp, hy⟩ := trip2_cover 𝒱 c bd i arg1 harg1 arg2 harg2 arg3 harg3 arg4 harg4 arg5 harg5 arg6 harg6 arg7 harg7 arg8 harg8 arg9 harg9 arg10 harg10 v66 v74_lo v75 X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- After the two loops of group 0 the weight buffer reads the group's dequantised weights. -/
theorem wd1 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (G : BufTy.Contents (Elt Ideal) arg10.view.ty) :
    arg10.view.read (Elt Ideal) (arg10.view.writes (Elt Ideal) G
      (pb_k0_t2 (F := Ideal) 𝒱 c bd i arg1 harg1 arg2 harg2 arg3 harg3 arg4 harg4 arg5 harg5 arg6 harg6 arg7 harg7 arg8 harg8 arg9 harg9 arg10 harg10 v66 v74_lo v75 X4 X9 k0_t2_loop.trips
        ++ pb_k0_t1 (F := Ideal) 𝒱 c bd i arg1 harg1 arg2 harg2 arg3 harg3 arg4 harg4 arg5 harg5 arg6 harg6 arg7 harg7 arg8 harg8 arg9 harg9 arg10 harg10 v66 v74_lo v75 X4 X9 k0_t1_loop.trips)) = WD N A W 0 := by
  funext y
  have e2 : (y 2).val < 256 := (y 2).isLt
  refine View.read_writes_apply_of_pieces (Val := Elt Ideal) (e := .bf16) arg10.view G (WD N A W 0) _ ?_ y ?_
  · intro p hp
    rcases List.mem_append.mp hp with hp | hp
    · exact pieces2 𝒱 c bd i arg1 harg1 arg2 harg2 arg3 harg3 arg4 harg4 arg5 harg5 arg6 harg6 arg7 harg7 arg8 harg8 arg9 harg9 arg10 harg10 N A W v66 v74_lo v75 X4 X9 hN hA hW p hp
    · exact pieces1 𝒱 c bd i arg1 harg1 arg2 harg2 arg3 harg3 arg4 harg4 arg5 harg5 arg6 harg6 arg7 harg7 arg8 harg8 arg9 harg9 arg10 harg10 N A W v66 v74_lo v75 X4 X9 hN hA hW p hp
  · by_cases hl : (y 2).val / 128 = 1
    · obtain ⟨p, hp, hy⟩ := cover2 𝒱 c bd i arg1 harg1 arg2 harg2 arg3 harg3 arg4 harg4 arg5 harg5 arg6 harg6 arg7 harg7 arg8 harg8 arg9 harg9 arg10 harg10 v66 v74_lo v75 X4 X9 y hl
      exact ⟨p, List.mem_append_left _ hp, hy⟩
    · obtain ⟨p, hp, hy⟩ := cover1 𝒱 c bd i arg1 harg1 arg2 harg2 arg3 harg3 arg4 harg4 arg5 harg5 arg6 harg6 arg7 harg7 arg8 harg8 arg9 harg9 arg10 harg10 v66 v74_lo v75 X4 X9 y (by omega)
      exact ⟨p, List.mem_append_right _ hp, hy⟩

/-- The four rectangles of trip `k` of the loop over group 1's lane tile 0 cover block `k`'s pair rows of the lane tile. -/
theorem trip3_cover (v66 v74_lo : FVec Ideal S72x256 .bf16) (v75 : Vec Ideal S16x128 .bf16) (X4 : BufTy.Contents (Elt Ideal) arg4.view.ty) (X9 : BufTy.Contents (Elt Ideal) arg9.view.ty) (k : Fin k0_t3_loop.trips) (y : S2304x2x256.Idx) (hy : (y 0).val / 32 = k.val)
    (hl : (y 2).val / 128 = 0) :
    ∃ p ∈ tripL_k0_t3 (F := Ideal) 𝒱 c bd i arg1 harg1 arg2 harg2 arg3 harg3 arg4 harg4 arg5 harg5 arg6 harg6 arg7 harg7 arg8 harg8 arg9 harg9 arg10 harg10 v66 v74_lo v75 X4 X9 k, y ∈ p.1.set := by
  unfold tripL_k0_t3 trip_k0_t3
  dsimp only
  by_cases h0 : 32 * k.val + 24 ≤ (y 0).val ∧ (y 0).val < 32 * k.val + 24 + 8
  · exact  List.exists_mem_cons_of _ (mem_tile _ (32 * k.val + 24) 0 ((k0_off9_eq k 1 1).trans (by simp [Nat.add_assoc])) (k0_off9_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 0 ((k0_off9_eq k 0 1).trans (by simp [Nat.add_assoc])) (k0_off9_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 0 ((k0_off9_eq k 1 0).trans (by simp [Nat.add_assoc])) (k0_off9_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 0 ((k0_off9_eq k 0 0).trans (by simp [Nat.add_assoc])) (k0_off9_inb k 0 0) y h3.1 h3.2 (by omega) (by omega))
  omega

/-- Every rectangle the loop over group 1's lane tile 0 stores holds the group's dequantised weights. -/
theorem pieces3 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t3 (F := Ideal) 𝒱 c bd i arg1 harg1 arg2 harg2 arg3 harg3 arg4 harg4 arg5 harg5 arg6 harg6 arg7 harg7 arg8 harg8 arg9 harg9 arg10 harg10 v66 v74_lo v75 X4 X9 k0_t3_loop.trips, ∀ x, p.2 x = WD N A W 1 (p.1.emb x) := by
  have key : ∀ j, j ≤ k0_t3_loop.trips → ∀ p ∈ pb_k0_t3 (F := Ideal) 𝒱 c bd i arg1 harg1 arg2 harg2 arg3 harg3 arg4 harg4 arg5 harg5 arg6 harg6 arg7 harg7 arg8 harg8 arg9 harg9 arg10 harg10 v66 v74_lo v75 X4 X9 j, ∀ x, p.2 x = WD N A W 1 (p.1.emb x) := by
    intro j
    induction j with
    | zero => intro _ p hp; simp [pb_k0_t3] at hp
    | succ j ih =>
      intro hj p hp
      have e := pb_k0_t3_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t3_loop.trips).val + 1 = j + 1 from rfl] at e
      rw [e] at hp
      rcases List.mem_append.mp hp with hp | hp
      · exact trip3_spec 𝒱 c bd i arg1 harg1 arg2 harg2 arg3 harg3 arg4 harg4 arg5 harg5 arg6 harg6 arg7 harg7 arg8 harg8 arg9 harg9 arg10 harg10 N A W v66 v74_lo v75 X4 X9 hN hA hW ⟨j, hj⟩ p hp
      · exact ih (by omega) p hp
  exact key _ le_rfl

/-- The rectangles of the loop over group 1's lane tile 0 cover the lane tile. -/
theorem cover3 (v66 v74_lo : FVec Ideal S72x256 .bf16) (v75 : Vec Ideal S16x128 .bf16) (X4 : BufTy.Contents (Elt Ideal) arg4.view.ty) (X9 : BufTy.Contents (Elt Ideal) arg9.view.ty) (y : S2304x2x256.Idx) (hl : (y 2).val / 128 = 0) :
    ∃ p ∈ pb_k0_t3 (F := Ideal) 𝒱 c bd i arg1 harg1 arg2 harg2 arg3 harg3 arg4 harg4 arg5 harg5 arg6 harg6 arg7 harg7 arg8 harg8 arg9 harg9 arg10 harg10 v66 v74_lo v75 X4 X9 k0_t3_loop.trips, y ∈ p.1.set := by
  have h72 : k0_t3_loop.trips = 72 := Nat.le_antisymm k0_t3_abs.2.1 (by decide)
  have e0 : (y 0).val < 2304 := (y 0).isLt
  have key : ∀ j, j ≤ k0_t3_loop.trips → (y 0).val / 32 < j → ∃ p ∈ pb_k0_t3 (F := Ideal) 𝒱 c bd i arg1 harg1 arg2 harg2 arg3 harg3 arg4 harg4 arg5 harg5 arg6 harg6 arg7 harg7 arg8 harg8 arg9 harg9 arg10 harg10 v66 v74_lo v75 X4 X9 j, y ∈ p.1.set := by
    intro j
    induction j with
    | zero => intro _ h; omega
    | succ j ih =>
      intro hj hlt
      have e := pb_k0_t3_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t3_loop.trips).val + 1 = j + 1 from rfl] at e
      rw [e]
      by_cases hk : (y 0).val / 32 = j
      · obtain ⟨p, hp, hy⟩ := trip3_cover 𝒱 c bd i arg1 harg1 arg2 harg2 arg3 harg3 arg4 harg4 arg5 harg5 arg6 harg6 arg7 harg7 arg8 harg8 arg9 harg9 arg10 harg10 v66 v74_lo v75 X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- The four rectangles of trip `k` of the loop over group 1's lane tile 1 cover block `k`'s pair rows of the lane tile. -/
theorem trip4_cover (v66 v74_lo : FVec Ideal S72x256 .bf16) (v75 : Vec Ideal S16x128 .bf16) (X4 : BufTy.Contents (Elt Ideal) arg4.view.ty) (X9 : BufTy.Contents (Elt Ideal) arg9.view.ty) (k : Fin k0_t4_loop.trips) (y : S2304x2x256.Idx) (hy : (y 0).val / 32 = k.val)
    (hl : (y 2).val / 128 = 1) :
    ∃ p ∈ tripL_k0_t4 (F := Ideal) 𝒱 c bd i arg1 harg1 arg2 harg2 arg3 harg3 arg4 harg4 arg5 harg5 arg6 harg6 arg7 harg7 arg8 harg8 arg9 harg9 arg10 harg10 v66 v74_lo v75 X4 X9 k, y ∈ p.1.set := by
  unfold tripL_k0_t4 trip_k0_t4
  dsimp only
  by_cases h0 : 32 * k.val + 24 ≤ (y 0).val ∧ (y 0).val < 32 * k.val + 24 + 8
  · exact  List.exists_mem_cons_of _ (mem_tile _ (32 * k.val + 24) 128 ((k0_off12_eq k 1 1).trans (by simp [Nat.add_assoc])) (k0_off12_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 128 ((k0_off12_eq k 0 1).trans (by simp [Nat.add_assoc])) (k0_off12_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 128 ((k0_off12_eq k 1 0).trans (by simp [Nat.add_assoc])) (k0_off12_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 128 ((k0_off12_eq k 0 0).trans (by simp [Nat.add_assoc])) (k0_off12_inb k 0 0) y h3.1 h3.2 (by omega) (by omega))
  omega

/-- Every rectangle the loop over group 1's lane tile 1 stores holds the group's dequantised weights. -/
theorem pieces4 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t4 (F := Ideal) 𝒱 c bd i arg1 harg1 arg2 harg2 arg3 harg3 arg4 harg4 arg5 harg5 arg6 harg6 arg7 harg7 arg8 harg8 arg9 harg9 arg10 harg10 v66 v74_lo v75 X4 X9 k0_t4_loop.trips, ∀ x, p.2 x = WD N A W 1 (p.1.emb x) := by
  have key : ∀ j, j ≤ k0_t4_loop.trips → ∀ p ∈ pb_k0_t4 (F := Ideal) 𝒱 c bd i arg1 harg1 arg2 harg2 arg3 harg3 arg4 harg4 arg5 harg5 arg6 harg6 arg7 harg7 arg8 harg8 arg9 harg9 arg10 harg10 v66 v74_lo v75 X4 X9 j, ∀ x, p.2 x = WD N A W 1 (p.1.emb x) := by
    intro j
    induction j with
    | zero => intro _ p hp; simp [pb_k0_t4] at hp
    | succ j ih =>
      intro hj p hp
      have e := pb_k0_t4_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t4_loop.trips).val + 1 = j + 1 from rfl] at e
      rw [e] at hp
      rcases List.mem_append.mp hp with hp | hp
      · exact trip4_spec 𝒱 c bd i arg1 harg1 arg2 harg2 arg3 harg3 arg4 harg4 arg5 harg5 arg6 harg6 arg7 harg7 arg8 harg8 arg9 harg9 arg10 harg10 N A W v66 v74_lo v75 X4 X9 hN hA hW ⟨j, hj⟩ p hp
      · exact ih (by omega) p hp
  exact key _ le_rfl

/-- The rectangles of the loop over group 1's lane tile 1 cover the lane tile. -/
theorem cover4 (v66 v74_lo : FVec Ideal S72x256 .bf16) (v75 : Vec Ideal S16x128 .bf16) (X4 : BufTy.Contents (Elt Ideal) arg4.view.ty) (X9 : BufTy.Contents (Elt Ideal) arg9.view.ty) (y : S2304x2x256.Idx) (hl : (y 2).val / 128 = 1) :
    ∃ p ∈ pb_k0_t4 (F := Ideal) 𝒱 c bd i arg1 harg1 arg2 harg2 arg3 harg3 arg4 harg4 arg5 harg5 arg6 harg6 arg7 harg7 arg8 harg8 arg9 harg9 arg10 harg10 v66 v74_lo v75 X4 X9 k0_t4_loop.trips, y ∈ p.1.set := by
  have h72 : k0_t4_loop.trips = 72 := Nat.le_antisymm k0_t4_abs.2.1 (by decide)
  have e0 : (y 0).val < 2304 := (y 0).isLt
  have key : ∀ j, j ≤ k0_t4_loop.trips → (y 0).val / 32 < j → ∃ p ∈ pb_k0_t4 (F := Ideal) 𝒱 c bd i arg1 harg1 arg2 harg2 arg3 harg3 arg4 harg4 arg5 harg5 arg6 harg6 arg7 harg7 arg8 harg8 arg9 harg9 arg10 harg10 v66 v74_lo v75 X4 X9 j, y ∈ p.1.set := by
    intro j
    induction j with
    | zero => intro _ h; omega
    | succ j ih =>
      intro hj hlt
      have e := pb_k0_t4_succ (F := Ideal) 𝒱 c bd i arg1 harg1 arg2 harg2 arg3 harg3 arg4 harg4 arg5 harg5 arg6 harg6 arg7 harg7 arg8 harg8 arg9 harg9 arg10 harg10 v66 v74_lo v75 X4 X9 ⟨j, hj⟩
      rw [show (⟨j, hj⟩ : Fin k0_t4_loop.trips).val + 1 = j + 1 from rfl] at e
      rw [e]
      by_cases hk : (y 0).val / 32 = j
      · obtain ⟨p, hp, hy⟩ := trip4_cover 𝒱 c bd i arg1 harg1 arg2 harg2 arg3 harg3 arg4 harg4 arg5 harg5 arg6 harg6 arg7 harg7 arg8 harg8 arg9 harg9 arg10 harg10 v66 v74_lo v75 X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- After the two loops of group 1 the weight buffer reads the group's dequantised weights. -/
theorem wd2 (v66 v74_lo : FVec Ideal S72x256 .bf16) (v75 : Vec Ideal S16x128 .bf16) (X4 : BufTy.Contents (Elt Ideal) arg4.view.ty) (X9 : BufTy.Contents (Elt Ideal) arg9.view.ty)
    (hN : ∀ (r : Fin 16) (l : Fin 128), (v75 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (G : BufTy.Contents (Elt Ideal) arg10.view.ty) :
    arg10.view.read (Elt Ideal) (arg10.view.writes (Elt Ideal) G
      (pb_k0_t4 (F := Ideal) 𝒱 c bd i arg1 harg1 arg2 harg2 arg3 harg3 arg4 harg4 arg5 harg5 arg6 harg6 arg7 harg7 arg8 harg8 arg9 harg9 arg10 harg10 v66 v74_lo v75 X4 X9 k0_t4_loop.trips
        ++ pb_k0_t3 (F := Ideal) 𝒱 c bd i arg1 harg1 arg2 harg2 arg3 harg3 arg4 harg4 arg5 harg5 arg6 harg6 arg7 harg7 arg8 harg8 arg9 harg9 arg10 harg10 v66 v74_lo v75 X4 X9 k0_t3_loop.trips)) = WD N A W 1 := by
  funext y
  have e2 : (y 2).val < 256 := (y 2).isLt
  refine View.read_writes_apply_of_pieces (Val := Elt Ideal) (e := .bf16) arg10.view G (WD N A W 1) _ ?_ y ?_
  · intro p hp
    rcases List.mem_append.mp hp with hp | hp
    · exact pieces4 𝒱 c bd i arg1 harg1 arg2 harg2 arg3 harg3 arg4 harg4 arg5 harg5 arg6 harg6 arg7 harg7 arg8 harg8 arg9 harg9 arg10 harg10 N A W v66 v74_lo v75 X4 X9 hN hA hW p hp
    · exact pieces3 𝒱 c bd i arg1 harg1 arg2 harg2 arg3 harg3 arg4 harg4 arg5 harg5 arg6 harg6 arg7 harg7 arg8 harg8 arg9 harg9 arg10 harg10 N A W v66 v74_lo v75 X4 X9 hN hA hW p hp
  · by_cases hl : (y 2).val / 128 = 1
    · obtain ⟨p, hp, hy⟩ := cover4 𝒱 c bd i arg1 harg1 arg2 harg2 arg3 harg3 arg4 harg4 arg5 harg5 arg6 harg6 arg7 harg7 arg8 harg8 arg9 harg9 arg10 harg10 v66 v74_lo v75 X4 X9 y hl
      exact ⟨p, List.mem_append_left _ hp, hy⟩
    · obtain ⟨p, hp, hy⟩ := cover3 𝒱 c bd i arg1 harg1 arg2 harg2 arg3 harg3 arg4 harg4 arg5 harg5 arg6 harg6 arg7 harg7 arg8 harg8 arg9 harg9 arg10 harg10 v66 v74_lo v75 X4 X9 y (by omega)
      exact ⟨p, List.mem_append_right _ hp, hy⟩

/-- The four rectangles of trip `k` of the loop over group 2's lane tile 0 cover block `k`'s pair rows of the lane tile. -/
theorem trip5_cover (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (k : Fin k0_t5_loop.trips) (y : S2304x2x256.Idx) (hy : (y 0).val / 32 = k.val)
    (hl : (y 2).val / 128 = 0) :
    ∃ p ∈ tripL_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 k, y ∈ p.1.set := by
  unfold tripL_k0_t5 trip_k0_t5
  dsimp only
  by_cases h0 : 32 * k.val + 24 ≤ (y 0).val ∧ (y 0).val < 32 * k.val + 24 + 8
  · exact  List.exists_mem_cons_of _ (mem_tile _ (32 * k.val + 24) 0 ((k0_off15_eq k 1 1).trans (by simp [Nat.add_assoc])) (k0_off15_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 0 ((k0_off15_eq k 0 1).trans (by simp [Nat.add_assoc])) (k0_off15_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 0 ((k0_off15_eq k 1 0).trans (by simp [Nat.add_assoc])) (k0_off15_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 0 ((k0_off15_eq k 0 0).trans (by simp [Nat.add_assoc])) (k0_off15_inb k 0 0) y h3.1 h3.2 (by omega) (by omega))
  omega

/-- Every rectangle the loop over group 2's lane tile 0 stores holds the group's dequantised weights. -/
theorem pieces5 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t5_loop.trips, ∀ x, p.2 x = WD N A W 2 (p.1.emb x) := by
  have key : ∀ j, j ≤ k0_t5_loop.trips → ∀ p ∈ pb_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 j, ∀ x, p.2 x = WD N A W 2 (p.1.emb x) := by
    intro j
    induction j with
    | zero => intro _ p hp; simp [pb_k0_t5] at hp
    | succ j ih =>
      intro hj p hp
      have e := pb_k0_t5_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t5_loop.trips).val + 1 = j + 1 from rfl] at e
      rw [e] at hp
      rcases List.mem_append.mp hp with hp | hp
      · exact trip5_spec 𝒱 c bd i arg1 harg1 arg2 harg2 arg3 harg3 arg4 harg4 arg5 harg5 arg6 harg6 arg7 harg7 arg8 harg8 arg9 harg9 arg10 harg10 N A W v76 v89 v90_raw v90_lo X4 X9 hN hA hW ⟨j, hj⟩ p hp
      · exact ih (by omega) p hp
  exact key _ le_rfl

/-- The rectangles of the loop over group 2's lane tile 0 cover the lane tile. -/
theorem cover5 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (y : S2304x2x256.Idx) (hl : (y 2).val / 128 = 0) :
    ∃ p ∈ pb_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t5_loop.trips, y ∈ p.1.set := by
  have h72 : k0_t5_loop.trips = 72 := Nat.le_antisymm k0_t5_abs.2.1 (by decide)
  have e0 : (y 0).val < 2304 := (y 0).isLt
  have key : ∀ j, j ≤ k0_t5_loop.trips → (y 0).val / 32 < j → ∃ p ∈ pb_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 j, y ∈ p.1.set := by
    intro j
    induction j with
    | zero => intro _ h; omega
    | succ j ih =>
      intro hj hlt
      have e := pb_k0_t5_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t5_loop.trips).val + 1 = j + 1 from rfl] at e
      rw [e]
      by_cases hk : (y 0).val / 32 = j
      · obtain ⟨p, hp, hy⟩ := trip5_cover 𝒱 c bd i arg1 harg1 arg2 harg2 arg3 harg3 arg4 harg4 arg5 harg5 arg6 harg6 arg7 harg7 arg8 harg8 arg9 harg9 arg10 harg10 v76 v89 v90_raw v90_lo X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- The four rectangles of trip `k` of the loop over group 2's lane tile 1 cover block `k`'s pair rows of the lane tile. -/
theorem trip6_cover (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (k : Fin k0_t6_loop.trips) (y : S2304x2x256.Idx) (hy : (y 0).val / 32 = k.val)
    (hl : (y 2).val / 128 = 1) :
    ∃ p ∈ tripL_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 k, y ∈ p.1.set := by
  unfold tripL_k0_t6 trip_k0_t6
  dsimp only
  by_cases h0 : 32 * k.val + 24 ≤ (y 0).val ∧ (y 0).val < 32 * k.val + 24 + 8
  · exact  List.exists_mem_cons_of _ (mem_tile _ (32 * k.val + 24) 128 ((k0_off18_eq k 1 1).trans (by simp [Nat.add_assoc])) (k0_off18_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 128 ((k0_off18_eq k 0 1).trans (by simp [Nat.add_assoc])) (k0_off18_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 128 ((k0_off18_eq k 1 0).trans (by simp [Nat.add_assoc])) (k0_off18_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 128 ((k0_off18_eq k 0 0).trans (by simp [Nat.add_assoc])) (k0_off18_inb k 0 0) y h3.1 h3.2 (by omega) (by omega))
  omega

/-- Every rectangle the loop over group 2's lane tile 1 stores holds the group's dequantised weights. -/
theorem pieces6 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t6_loop.trips, ∀ x, p.2 x = WD N A W 2 (p.1.emb x) := by
  have key : ∀ j, j ≤ k0_t6_loop.trips → ∀ p ∈ pb_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 j, ∀ x, p.2 x = WD N A W 2 (p.1.emb x) := by
    intro j
    induction j with
    | zero => intro _ p hp; simp [pb_k0_t6] at hp
    | succ j ih =>
      intro hj p hp
      have e := pb_k0_t6_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t6_loop.trips).val + 1 = j + 1 from rfl] at e
      rw [e] at hp
      rcases List.mem_append.mp hp with hp | hp
      · exact trip6_spec 𝒱 c bd i arg1 harg1 arg2 harg2 arg3 harg3 arg4 harg4 arg5 harg5 arg6 harg6 arg7 harg7 arg8 harg8 arg9 harg9 arg10 harg10 N A W v76 v89 v90_raw v90_lo X4 X9 hN hA hW ⟨j, hj⟩ p hp
      · exact ih (by omega) p hp
  exact key _ le_rfl

/-- The rectangles of the loop over group 2's lane tile 1 cover the lane tile. -/
theorem cover6 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (y : S2304x2x256.Idx) (hl : (y 2).val / 128 = 1) :
    ∃ p ∈ pb_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t6_loop.trips, y ∈ p.1.set := by
  have h72 : k0_t6_loop.trips = 72 := Nat.le_antisymm k0_t6_abs.2.1 (by decide)
  have e0 : (y 0).val < 2304 := (y 0).isLt
  have key : ∀ j, j ≤ k0_t6_loop.trips → (y 0).val / 32 < j → ∃ p ∈ pb_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 j, y ∈ p.1.set := by
    intro j
    induction j with
    | zero => intro _ h; omega
    | succ j ih =>
      intro hj hlt
      have e := pb_k0_t6_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t6_loop.trips).val + 1 = j + 1 from rfl] at e
      rw [e]
      by_cases hk : (y 0).val / 32 = j
      · obtain ⟨p, hp, hy⟩ := trip6_cover 𝒱 c bd i arg1 harg1 arg2 harg2 arg3 harg3 arg4 harg4 arg5 harg5 arg6 harg6 arg7 harg7 arg8 harg8 arg9 harg9 arg10 harg10 v76 v89 v90_raw v90_lo X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- After the two loops of group 2 the weight buffer reads the group's dequantised weights. -/
theorem wd3 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (G : BufTy.Contents (Elt Ideal) arg10.view.ty) :
    arg10.view.read (Elt Ideal) (arg10.view.writes (Elt Ideal) G
      (pb_k0_t6 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t6_loop.trips
        ++ pb_k0_t5 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t5_loop.trips)) = WD N A W 2 := by
  funext y
  have e2 : (y 2).val < 256 := (y 2).isLt
  refine View.read_writes_apply_of_pieces (Val := Elt Ideal) (e := .bf16) arg10.view G (WD N A W 2) _ ?_ y ?_
  · intro p hp
    rcases List.mem_append.mp hp with hp | hp
    · exact pieces6 𝒱 c bd i arg1 harg1 arg2 harg2 arg3 harg3 arg4 harg4 arg5 harg5 arg6 harg6 arg7 harg7 arg8 harg8 arg9 harg9 arg10 harg10 N A W v76 v89 v90_raw v90_lo X4 X9 hN hA hW p hp
    · exact pieces5 𝒱 c bd i arg1 harg1 arg2 harg2 arg3 harg3 arg4 harg4 arg5 harg5 arg6 harg6 arg7 harg7 arg8 harg8 arg9 harg9 arg10 harg10 N A W v76 v89 v90_raw v90_lo X4 X9 hN hA hW p hp
  · by_cases hl : (y 2).val / 128 = 1
    · obtain ⟨p, hp, hy⟩ := cover6 𝒱 c bd i arg1 harg1 arg2 harg2 arg3 harg3 arg4 harg4 arg5 harg5 arg6 harg6 arg7 harg7 arg8 harg8 arg9 harg9 arg10 harg10 v76 v89 v90_raw v90_lo X4 X9 y hl
      exact ⟨p, List.mem_append_left _ hp, hy⟩
    · obtain ⟨p, hp, hy⟩ := cover5 𝒱 c bd i arg1 harg1 arg2 harg2 arg3 harg3 arg4 harg4 arg5 harg5 arg6 harg6 arg7 harg7 arg8 harg8 arg9 harg9 arg10 harg10 v76 v89 v90_raw v90_lo X4 X9 y (by omega)
      exact ⟨p, List.mem_append_right _ hp, hy⟩

/-- The four rectangles of trip `k` of the loop over group 3's lane tile 0 cover block `k`'s pair rows of the lane tile. -/
theorem trip7_cover (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (k : Fin k0_t7_loop.trips) (y : S2304x2x256.Idx) (hy : (y 0).val / 32 = k.val)
    (hl : (y 2).val / 128 = 0) :
    ∃ p ∈ tripL_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 k, y ∈ p.1.set := by
  unfold tripL_k0_t7 trip_k0_t7
  dsimp only
  by_cases h0 : 32 * k.val + 24 ≤ (y 0).val ∧ (y 0).val < 32 * k.val + 24 + 8
  · exact  List.exists_mem_cons_of _ (mem_tile _ (32 * k.val + 24) 0 ((k0_off21_eq k 1 1).trans (by simp [Nat.add_assoc])) (k0_off21_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 0 ((k0_off21_eq k 0 1).trans (by simp [Nat.add_assoc])) (k0_off21_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 0 ((k0_off21_eq k 1 0).trans (by simp [Nat.add_assoc])) (k0_off21_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 0 ((k0_off21_eq k 0 0).trans (by simp [Nat.add_assoc])) (k0_off21_inb k 0 0) y h3.1 h3.2 (by omega) (by omega))
  omega

/-- Every rectangle the loop over group 3's lane tile 0 stores holds the group's dequantised weights. -/
theorem pieces7 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t7_loop.trips, ∀ x, p.2 x = WD N A W 3 (p.1.emb x) := by
  have key : ∀ j, j ≤ k0_t7_loop.trips → ∀ p ∈ pb_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 j, ∀ x, p.2 x = WD N A W 3 (p.1.emb x) := by
    intro j
    induction j with
    | zero => intro _ p hp; simp [pb_k0_t7] at hp
    | succ j ih =>
      intro hj p hp
      have e := pb_k0_t7_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t7_loop.trips).val + 1 = j + 1 from rfl] at e
      rw [e] at hp
      rcases List.mem_append.mp hp with hp | hp
      · exact trip7_spec 𝒱 c bd i arg1 harg1 arg2 harg2 arg3 harg3 arg4 harg4 arg5 harg5 arg6 harg6 arg7 harg7 arg8 harg8 arg9 harg9 arg10 harg10 N A W v76 v89 v90_raw v90_lo X4 X9 hN hA hW ⟨j, hj⟩ p hp
      · exact ih (by omega) p hp
  exact key _ le_rfl

/-- The rectangles of the loop over group 3's lane tile 0 cover the lane tile. -/
theorem cover7 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (y : S2304x2x256.Idx) (hl : (y 2).val / 128 = 0) :
    ∃ p ∈ pb_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t7_loop.trips, y ∈ p.1.set := by
  have h72 : k0_t7_loop.trips = 72 := Nat.le_antisymm k0_t7_abs.2.1 (by decide)
  have e0 : (y 0).val < 2304 := (y 0).isLt
  have key : ∀ j, j ≤ k0_t7_loop.trips → (y 0).val / 32 < j → ∃ p ∈ pb_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 j, y ∈ p.1.set := by
    intro j
    induction j with
    | zero => intro _ h; omega
    | succ j ih =>
      intro hj hlt
      have e := pb_k0_t7_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t7_loop.trips).val + 1 = j + 1 from rfl] at e
      rw [e]
      by_cases hk : (y 0).val / 32 = j
      · obtain ⟨p, hp, hy⟩ := trip7_cover 𝒱 c bd i arg1 harg1 arg2 harg2 arg3 harg3 arg4 harg4 arg5 harg5 arg6 harg6 arg7 harg7 arg8 harg8 arg9 harg9 arg10 harg10 v76 v89 v90_raw v90_lo X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- The four rectangles of trip `k` of the loop over group 3's lane tile 1 cover block `k`'s pair rows of the lane tile. -/
theorem trip8_cover (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (k : Fin k0_t8_loop.trips) (y : S2304x2x256.Idx) (hy : (y 0).val / 32 = k.val)
    (hl : (y 2).val / 128 = 1) :
    ∃ p ∈ tripL_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 k, y ∈ p.1.set := by
  unfold tripL_k0_t8 trip_k0_t8
  dsimp only
  by_cases h0 : 32 * k.val + 24 ≤ (y 0).val ∧ (y 0).val < 32 * k.val + 24 + 8
  · exact  List.exists_mem_cons_of _ (mem_tile _ (32 * k.val + 24) 128 ((k0_off24_eq k 1 1).trans (by simp [Nat.add_assoc])) (k0_off24_inb k 1 1) y h0.1 h0.2 (by omega) (by omega))
  by_cases h1 : 32 * k.val + 8 ≤ (y 0).val ∧ (y 0).val < 32 * k.val + 8 + 8
  · exact List.exists_mem_cons_of_exists <|  List.exists_mem_cons_of _ (mem_tile _ (32 * k.val + 8) 128 ((k0_off24_eq k 0 1).trans (by simp [Nat.add_assoc])) (k0_off24_inb k 0 1) y h1.1 h1.2 (by omega) (by omega))
  by_cases h2 : 32 * k.val + 16 ≤ (y 0).val ∧ (y 0).val < 32 * k.val + 16 + 8
  · exact List.exists_mem_cons_of_exists <| List.exists_mem_cons_of_exists <|  List.exists_mem_cons_of _ (mem_tile _ (32 * k.val + 16) 128 ((k0_off24_eq k 1 0).trans (by simp [Nat.add_assoc])) (k0_off24_inb k 1 0) y h2.1 h2.2 (by omega) (by omega))
  by_cases h3 : 32 * k.val + 0 ≤ (y 0).val ∧ (y 0).val < 32 * k.val + 0 + 8
  · exact List.exists_mem_cons_of_exists <| List.exists_mem_cons_of_exists <| List.exists_mem_cons_of_exists <|  List.exists_mem_cons_of _ (mem_tile _ (32 * k.val + 0) 128 ((k0_off24_eq k 0 0).trans (by simp [Nat.add_assoc])) (k0_off24_inb k 0 0) y h3.1 h3.2 (by omega) (by omega))
  omega

/-- Every rectangle the loop over group 3's lane tile 1 stores holds the group's dequantised weights. -/
theorem pieces8 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) :
    ∀ p ∈ pb_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t8_loop.trips, ∀ x, p.2 x = WD N A W 3 (p.1.emb x) := by
  have key : ∀ j, j ≤ k0_t8_loop.trips → ∀ p ∈ pb_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 j, ∀ x, p.2 x = WD N A W 3 (p.1.emb x) := by
    intro j
    induction j with
    | zero => intro _ p hp; simp [pb_k0_t8] at hp
    | succ j ih =>
      intro hj p hp
      have e := pb_k0_t8_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t8_loop.trips).val + 1 = j + 1 from rfl] at e
      rw [e] at hp
      rcases List.mem_append.mp hp with hp | hp
      · exact trip8_spec 𝒱 c bd i arg1 harg1 arg2 harg2 arg3 harg3 arg4 harg4 arg5 harg5 arg6 harg6 arg7 harg7 arg8 harg8 arg9 harg9 arg10 harg10 N A W v76 v89 v90_raw v90_lo X4 X9 hN hA hW ⟨j, hj⟩ p hp
      · exact ih (by omega) p hp
  exact key _ le_rfl

/-- The rectangles of the loop over group 3's lane tile 1 cover the lane tile. -/
theorem cover8 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty) (y : S2304x2x256.Idx) (hl : (y 2).val / 128 = 1) :
    ∃ p ∈ pb_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t8_loop.trips, y ∈ p.1.set := by
  have h72 : k0_t8_loop.trips = 72 := Nat.le_antisymm k0_t8_abs.2.1 (by decide)
  have e0 : (y 0).val < 2304 := (y 0).isLt
  have key : ∀ j, j ≤ k0_t8_loop.trips → (y 0).val / 32 < j → ∃ p ∈ pb_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 j, y ∈ p.1.set := by
    intro j
    induction j with
    | zero => intro _ h; omega
    | succ j ih =>
      intro hj hlt
      have e := pb_k0_t8_succ (F := Ideal) 𝒱 c bd i arg1 harg1 arg2 harg2 arg3 harg3 arg4 harg4 arg5 harg5 arg6 harg6 arg7 harg7 arg8 harg8 arg9 harg9 arg10 harg10 v76 v89 v90_raw v90_lo X4 X9 ⟨j, hj⟩
      rw [show (⟨j, hj⟩ : Fin k0_t8_loop.trips).val + 1 = j + 1 from rfl] at e
      rw [e]
      by_cases hk : (y 0).val / 32 = j
      · obtain ⟨p, hp, hy⟩ := trip8_cover 𝒱 c bd i arg1 harg1 arg2 harg2 arg3 harg3 arg4 harg4 arg5 harg5 arg6 harg6 arg7 harg7 arg8 harg8 arg9 harg9 arg10 harg10 v76 v89 v90_raw v90_lo X4 X9 ⟨j, hj⟩ y hk hl
        exact ⟨p, List.mem_append_left _ hp, hy⟩
      · obtain ⟨p, hp, hy⟩ := ih (by omega) (by omega)
        exact ⟨p, List.mem_append_right _ hp, hy⟩
  exact key _ le_rfl (by omega)

/-- After the two loops of group 3 the weight buffer reads the group's dequantised weights. -/
theorem wd4 (v76 : FVec Ideal S16x128 .bf16) (v89 : FVec Ideal S256x4608 .bf16) (v90_raw : Vec Ideal S2304x2x256 .bf16) (v90_lo : FVec Ideal S2304x256 .bf16) (X4 : BufTy.Contents (Elt Ideal) arg4.view.ty) (X9 : BufTy.Contents (Elt Ideal) arg9.view.ty)
    (hN : ∀ (r : Fin 16) (l : Fin 128), (v76 : FVec Ideal S16x128 .bf16) (ix2 r l) = N r.val l.val)
    (hA : ∀ y, arg9.view.read (Elt Ideal) X9 y = A (y 0).val (y 2).val)
    (hW : ∀ y, (arg4.view.read (Elt Ideal) X4 y : BitVec 8).toNat = W (y 0).val (y 1).val) (G : BufTy.Contents (Elt Ideal) arg10.view.ty) :
    arg10.view.read (Elt Ideal) (arg10.view.writes (Elt Ideal) G
      (pb_k0_t8 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t8_loop.trips
        ++ pb_k0_t7 (F := Ideal) 𝒱 c bd i arg1 harg1 arg2 harg2 arg3 harg3 arg4 harg4 arg5 harg5 arg6 harg6 arg7 harg7 arg8 harg8 arg9 harg9 arg10 harg10 v76 v89 v90_raw v90_lo X4 X9 k0_t7_loop.trips)) = WD N A W 3 := by
  funext y
  have e2 : (y 2).val < 256 := (y 2).isLt
  refine View.read_writes_apply_of_pieces (Val := Elt Ideal) (e := .bf16) arg10.view G (WD N A W 3) _ ?_ y ?_
  · intro p hp
    rcases List.mem_append.mp hp with hp | hp
    · exact pieces8 𝒱 c bd i arg1 harg1 arg2 harg2 arg3 harg3 arg4 harg4 arg5 harg5 arg6 harg6 arg7 harg7 arg8 harg8 arg9 harg9 arg10 harg10 N A W v76 v89 v90_raw v90_lo X4 X9 hN hA hW p hp
    · exact pieces7 𝒱 c bd i arg1 harg1 arg2 harg2 arg3 harg3 arg4 harg4 arg5 harg5 arg6 harg6 arg7 harg7 arg8 harg8 arg9 harg9 arg10 harg10 N A W v76 v89 v90_raw v90_lo X4 X9 hN hA hW p hp
  · by_cases hl : (y 2).val / 128 = 1
    · obtain ⟨p, hp, hy⟩ := cover8 𝒱 c bd i arg1 harg1 arg2 harg2 arg3 harg3 arg4 harg4 arg5 harg5 arg6 harg6 arg7 harg7 arg8 harg8 arg9 harg9 arg10 harg10 v76 v89 v90_raw v90_lo X4 X9 y hl
      exact ⟨p, List.mem_append_left _ hp, hy⟩
    · obtain ⟨p, hp, hy⟩ := cover7 𝒱 c bd i arg1 harg1 arg2 harg2 arg3 harg3 arg4 harg4 arg5 harg5 arg6 harg6 arg7 harg7 arg8 harg8 arg9 harg9 arg10 harg10 v76 v89 v90_raw v90_lo X4 X9 y (by omega)
      exact ⟨p, List.mem_append_right _ hp, hy⟩

end Cert.KernelIdeal.Own
end
-- ==== Proof.Setup.lean ====
/- What the two runs of the idealized body share: the body's branch condition in closed form over the grid, the names of the
   staging and scratch memrefs, and the scratch the invariant owns. -/
module
public import proofs.«01_k».proof.Proof.Weights
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, e0]
    word_cmp
   : ∀ t : Fin grid0.N, cond0_0 (grid0.coords t) ↔ t.val % 72 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S72x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x72x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x2x4608 .bf16 := Memref.whole cc0_scratch0
abbrev scM0_1 : Memref sig .tc .vmem S72x2x1024 .bf16 := Memref.whole cc0_scratch1
abbrev scM0_2 : Memref sig .tc .vmem S2304x2x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Own

end
-- ==== Proof.Values.lean ====
/- The values the kernel body holds: the permuted activations, the absmax of every block and column, and the output of a grid
   point; and, for each of the three buffers stored by pieces, what the buffer reads once its pieces are stored. -/
module

public import proofs.«01_k».proof.Proof.Setup

@[expose] public section

set_option maxRecDepth 16384

noncomputable section

namespace Cert.KernelIdeal.Own

open Idealize.ShloMosaic Cert.KernelIdeal Cert.KernelIdeal.Gen

/-! ## The values, by natural numbers (zero out of range, where nothing reads them) -/

/-- Level `r` of the table, in lane `l`. -/
def NL (x2 : Vec Ideal S16x128 .bf16) : ℕ → ℕ → EReal := fun r l =>
  if h : r < 16 ∧ l < 128 then x2 (ix2 ⟨r, h.1⟩ ⟨l, h.2⟩) else 0

/-- The packed codes of a row and column. -/
def WB (x3 : Vec Ideal S2304x1024 .i8) : ℕ → ℕ → ℕ := fun r c =>
  if h : r < 2304 ∧ c < 1024 then (x3 (ix2 ⟨r, h.1⟩ ⟨c, h.2⟩) : BitVec 8).toNat else 0

/-- The absmax of block `b` and column `c`: its code times the column group's scale, plus the offset. -/
def AM (x0 : Vec Ideal S1 .f32) (x4 : Vec Ideal S72x1024 .i8) (x5 : Vec Ideal S1x72x4 .f32) : ℕ → ℕ → EReal := fun b c =>
  if h : b < 72 ∧ c < 1024 then
    FloatOps.sitofp (F := Ideal) FTy.f32 (x4 (ix2 ⟨b, h.1⟩ ⟨c, h.2⟩))
      * x5 (ix3 (0 : Fin 1) ⟨b, h.1⟩ (⟨c / 256, by omega⟩ : Fin 4)) + x0 (ix1 (0 : Fin 1))
  else 0

/-- The activations at row `i` and column `k`. -/
def XN (x1 : Vec Ideal S256x4608 .bf16) : ℕ → ℕ → EReal := fun i k =>
  if h : i < 256 ∧ k < 4608 then x1 (ix2 ⟨i, h.1⟩ ⟨k, h.2⟩) else 0

/-- The buffer of absmax, both halves of every word the same. -/
def AMbuf (x0 : Vec Ideal S1 .f32) (x4 : Vec Ideal S72x1024 .i8) (x5 : Vec Ideal S1x72x4 .f32) : S72x2x1024.Idx → Elt Ideal .bf16 :=
  fun y => AM x0 x4 x5 (y 0).val (y 2).val

/-- The buffer of permuted activations: row pair `q`'s half `s` at column `k` is row `2 q + s` at the column `k` came from. -/
def XP (x1 : Vec Ideal S256x4608 .bf16) : S128x2x4608.Idx → Elt Ideal .bf16 :=
  fun y => XN x1 (2 * (y 0).val + (y 1).val) (src (y 2).val)

/-- The output of a grid point, row `i` and column `j` of its 1024: the permuted activations times the dequantised weights. -/
def OUT (x0 : Vec Ideal S1 .f32) (x1 : Vec Ideal S256x4608 .bf16) (x2 : Vec Ideal S16x128 .bf16) (x3 : Vec Ideal S2304x1024 .i8)
    (x4 : Vec Ideal S72x1024 .i8) (x5 : Vec Ideal S1x72x4 .f32) : S256x1024.Idx → Elt Ideal .bf16 :=
  fun y => ∑ k : Fin 4608, XN x1 (y 0).val (src k.val)
    * wdF (NL x2) (AM x0 x4 x5) (WB x3) ((y 1).val / 256) (k.val / 2) (k.val % 2) ((y 1).val % 256)

/-! ## A buffer stored by pieces, from left to right along one axis -/

/-- The pieces of `L` hold `G`'s values and cover every index whose coordinate on axis `a` is below `o`. -/
def Good {s : Shape} {e : EltTy} (G : s.Idx → Elt Ideal e) (a : Fin s.rank) (L : List (View.Piece (Elt Ideal) s e)) (o : ℕ) : Prop :=
  (∀ p ∈ L, ∀ x, p.2 x = G (p.1.emb x)) ∧ ∀ y : s.Idx, (y a).val < o → ∃ p ∈ L, y ∈ p.1.set

theorem good_nil {s : Shape} {e : EltTy} (G : s.Idx → Elt Ideal e) (a : Fin s.rank) : Good G a [] 0 :=
  ⟨fun _ h => absurd h List.not_mem_nil, fun _ h => absurd h (Nat.not_lt_zero _)⟩

theorem good_cons {s : Shape} {e : EltTy} {G : s.Idx → Elt Ideal e} {a : Fin s.rank} {L : List (View.Piece (Elt Ideal) s e)} {o o' : ℕ}
    (p : View.Piece (Elt Ideal) s e) (h : Good G a L o) (hG : ∀ x, p.2 x = G (p.1.emb x))
    (hc : ∀ y : s.Idx, o ≤ (y a).val → (y a).val < o' → y ∈ p.1.set) : Good G a (p :: L) o' := by
  refine ⟨fun q hq => ?_, fun y hy => ?_⟩
  · rcases List.mem_cons.mp hq with rfl | hq
    · exact hG
    · exact h.1 q hq
  · by_cases ho : (y a).val < o
    · exact List.exists_mem_cons_of_exists (h.2 y ho)
    · exact List.exists_mem_cons_of _ (hc y (by omega) hy)

theorem good_read {s : Shape} {e : EltTy} {κ : Kind} {sp : Space} {v : View sig κ sp s e} {G : s.Idx → Elt Ideal e} {a : Fin s.rank}
    {L : List (View.Piece (Elt Ideal) s e)} (h : Good G a L (s.size a)) (f : v.ty.Contents (Elt Ideal)) :
    v.read (Elt Ideal) (v.writes (Elt Ideal) f L) = G :=
  funext fun y => View.read_writes_apply_of_pieces v f G L h.1 y (h.2 y (y a).isLt)

/-! ## The absmax buffer -/

section absmax
variable {arg1 : Memref sig .tc .smem S1 .f32} (harg1 : arg1.IsWhole) {arg5 : Memref sig .tc .vmem S72x1024 .i8} (harg5 : arg5.IsWhole)
  {arg6 : Memref sig .tc .vmem S1x72x4 .f32} (harg6 : arg6.IsWhole)
  (x0 : Vec Ideal S1 .f32) (x4 : Vec Ideal S72x1024 .i8) (x5 : Vec Ideal S1x72x4 .f32)

/-- The offset, read as a scalar. -/
theorem load1 (inb : ∀ a, (![0] : Fin 1 → ℕ) a + S1.size a ≤ S1.size a) (j : S1.Idx) :
    View.readAt (Elt Ideal) arg1.view (Rect.unit (s := S1) ![0] S1.size inb).toLoadRect (harg1.unread x0) j = x0 (ix1 (0 : Fin 1)) := by
  rw [View.readAt_apply, harg1.read_unread]
  congr 1
  funext a
  apply Fin.ext
  have h := ((Rect.unit (s := S1) ![0] S1.size inb).toLoadRect.idx j a).isLt
  match a with
  | ⟨0, _⟩ =>
    change _ < 1 at h
    show _ = 0
    omega

theorem load5 (o : ℕ) (inb : ∀ a, (![0, o] : Fin 2 → ℕ) a + S72x256.size a ≤ S72x1024.size a) (b : Fin 72) (c : Fin 256) (ho : o + c.val < 1024) :
    View.readAt (Elt Ideal) arg5.view (Rect.unit (s := S72x1024) ![0, o] S72x256.size inb).toLoadRect (harg5.unread x4) (ix2 b c)
      = x4 (ix2 b ⟨o + c.val, ho⟩) := by
  rw [View.readAt_apply, harg5.read_unread]
  congr 1
  funext a
  match a with
  | ⟨0, _⟩ => exact Fin.ext (by show 0 + 1 * b.val = b.val; omega)
  | ⟨1, _⟩ => exact Fin.ext (by show o + 1 * c.val = o + c.val; omega)

theorem load6 (g : ℕ) (inb : ∀ a, (![0, 0, g] : Fin 3 → ℕ) a + S1x72x1.size a ≤ S1x72x4.size a) (b : Fin 72) (hg : g < 4) :
    View.readAt (Elt Ideal) arg6.view (Rect.unit (s := S1x72x4) ![0, 0, g] S1x72x1.size inb).toLoadRect (harg6.unread x5)
      (ix3 (0 : Fin 1) b (0 : Fin 1)) = x5 (ix3 (0 : Fin 1) b ⟨g, hg⟩) := by
  rw [View.readAt_apply, harg6.read_unread]
  congr 1
  funext a
  match a with
  | ⟨0, _⟩ => exact Fin.ext (by show 0 + 1 * 0 = 0; omega)
  | ⟨1, _⟩ => exact Fin.ext (by show 0 + 1 * b.val = b.val; omega)
  | ⟨2, _⟩ => exact Fin.ext (by show g + 1 * 0 = g; omega)

theorem pay119_apply (v3 : Vec Ideal S72x256 .i8) (v5 : Vec Ideal S1x72x1 .f32) (v9 : Elt Ideal .f32) (b : Fin 72) (s : Fin 2) (c : Fin 256) :
    k0_pay119 v3 v5 v9 (ix3 b s c)
      = FloatOps.sitofp (F := Ideal) FTy.f32 (v3 (ix2 b c)) * v5 (ix3 (0 : Fin 1) b (0 : Fin 1)) + v9 := by
  pointwise [k0_pay119]
  rw [ite_self]

/-- One column group's stored absmax. -/
theorem am_piece (g : ℕ) (hg : g < 4) (inb5 : ∀ a, (![0, 256 * g] : Fin 2 → ℕ) a + S72x256.size a ≤ S72x1024.size a)
    (inb6 : ∀ a, (![0, 0, g] : Fin 3 → ℕ) a + S1x72x1.size a ≤ S1x72x4.size a)
    (inb9 : ∀ a, (![0, 0, 256 * g] : Fin 3 → ℕ) a + S72x2x256.size a ≤ S72x2x1024.size a) (r : Elt Ideal .f32) (hr : r = x0 (ix1 (0 : Fin 1)))
    (x : S72x2x256.Idx) :
    k0_pay119 (View.readAt (Elt Ideal) arg5.view (Rect.unit (s := S72x1024) ![0, 256 * g] S72x256.size inb5).toLoadRect (harg5.unread x4))
      (View.readAt (Elt Ideal) arg6.view (Rect.unit (s := S1x72x4) ![0, 0, g] S1x72x1.size inb6).toLoadRect (harg6.unread x5)) r x
      = AMbuf x0 x4 x5 ((Rect.unit (s := S72x2x1024) ![0, 0, 256 * g] S72x2x256.size inb9).emb x) := by
  obtain ⟨b, s, c, rfl⟩ : ∃ (b : Fin 72) (s : Fin 2) (c : Fin 256), x = ix3 b s c := ⟨x 0, x 1, x 2, eq_ix3 x⟩
  rw [pay119_apply, load5 harg5 x4 (256 * g) inb5 b c (by omega), load6 harg6 x5 g inb6 b hg, hr]
  have e0 : (((Rect.unit (s := S72x2x1024) ![0, 0, 256 * g] S72x2x256.size inb9).emb (ix3 b s c)) 0).val = b.val := by
    show 0 + 1 * b.val = _; omega
  have e2 : (((Rect.unit (s := S72x2x1024) ![0, 0, 256 * g] S72x2x256.size inb9).emb (ix3 b s c)) 2).val = 256 * g + c.val := by
    show 256 * g + 1 * c.val = _; omega
  unfold AMbuf
  rw [e0, e2]
  unfold AM
  have hc : (256 * g + c.val) / 256 = g := by omega
  rw [dif_pos ⟨b.isLt, by omega⟩]
  simp only [hc]

theorem mem9 (o : ℕ) (inb : ∀ a, (![0, 0, o] : Fin 3 → ℕ) a + S72x2x256.size a ≤ S72x2x1024.size a) (y : S72x2x1024.Idx)
    (h : o ≤ (y 2).val) (h' : (y 2).val < o + 256) : y ∈ (Rect.unit (s := S72x2x1024) ![0, 0, o] S72x2x256.size inb).set := by
  rw [Rect.mem_set_unit]
  intro a
  match a with
  | ⟨0, _⟩ => exact ⟨Nat.zero_le _, by have h : (y 0).val < 72 := (y 0).isLt; show (y 0).val < 0 + 72; omega⟩
  | ⟨1, _⟩ => exact ⟨Nat.zero_le _, by have h : (y 1).val < 2 := (y 1).isLt; show (y 1).val < 0 + 2; omega⟩
  | ⟨2, _⟩ => exact ⟨h, h'⟩

/-- A group's absmax stored right of the groups already stored. -/
theorem am_step (g : ℕ) (hg : g < 4) (inb5 : ∀ a, (![0, 256 * g] : Fin 2 → ℕ) a + S72x256.size a ≤ S72x1024.size a)
    (inb6 : ∀ a, (![0, 0, g] : Fin 3 → ℕ) a + S1x72x1.size a ≤ S1x72x4.size a)
    (inb9 : ∀ a, (![0, 0, 256 * g] : Fin 3 → ℕ) a + S72x2x256.size a ≤ S72x2x1024.size a) (r : Elt Ideal .f32) (hr : r = x0 (ix1 (0 : Fin 1)))
    {L : List (View.Piece (Elt Ideal) S72x2x1024 .bf16)} (h : Good (s := S72x2x1024) (AMbuf x0 x4 x5) 2 L (256 * g)) :
    Good (s := S72x2x1024) (AMbuf x0 x4 x5) 2 (⟨Rect.unit (s := S72x2x1024) ![0, 0, 256 * g] S72x2x256.size inb9,
      k0_pay119 (View.readAt (Elt Ideal) arg5.view (Rect.unit (s := S72x1024) ![0, 256 * g] S72x256.size inb5).toLoadRect (harg5.unread x4))
        (View.readAt (Elt Ideal) arg6.view (Rect.unit (s := S1x72x4) ![0, 0, g] S1x72x1.size inb6).toLoadRect (harg6.unread x5)) r⟩ :: L)
      (256 * g + 256) :=
  good_cons _ h (am_piece harg5 harg6 x0 x4 x5 g hg inb5 inb6 inb9 r hr) (fun y h1 h2 => mem9 (256 * g) inb9 y h1 h2)

end absmax

/-! ## The permuted activations -/

section perm
variable {arg2 : Memref sig .tc .vmem S256x4608 .bf16} (harg2 : arg2.IsWhole) (x1 : Vec Ideal S256x4608 .bf16)

/-- A chunk's rows stored as pairs: the pair's half `s` is row `2 q + s`. -/
theorem rowPairs_apply (w : FVec Ideal S256x256 .bf16) (q : Fin 128) (s : Fin 2) (c : Fin 256) :
    k0_pay6 (rowsOfParity 0 S128x256 w bitcasts_S256x256_w16_S128x256_w32) (rowsOfParity 1 S128x256 w bitcasts_S256x256_w16_S128x256_w32)
      (ix3 q s c) = w (ix2 (⟨2 * q.val + s.val, by omega⟩ : Fin 256) c) := by
  pointwise [k0_pay6]
  have : s.val = 0 ∨ s.val = 1 := by omega
  rcases this with h | h
  · rw [if_pos (by omega)]; simp only [h]; rfl
  · rw [if_neg (by omega)]; simp only [h]

/-- A permuted chunk stored as pairs of rows. -/
theorem pay7_apply (x : Vec Ideal S256x256 .bf16) (q : Fin 128) (s : Fin 2) (c : Fin 256) :
    k0_pay7 k0_pay2 x (ix3 q s c) = x (ix2 (⟨2 * q.val + s.val, by omega⟩ : Fin 256) (⟨src c.val, src_lt (n := 4) c.isLt⟩ : Fin 256)) := by
  have e : k0_pay7 k0_pay2 x = k0_pay6 (rowsOfParity 0 S128x256 (k0_pay3 x) bitcasts_S256x256_w16_S128x256_w32)
      (rowsOfParity 1 S128x256 (k0_pay3 x) bitcasts_S256x256_w16_S128x256_w32) := rfl
  rw [e, rowPairs_apply, chunk_apply]

theorem loadX (o : ℕ) (inb : ∀ a, (![0, o] : Fin 2 → ℕ) a + S256x256.size a ≤ S256x4608.size a) (i : Fin 256) (c : Fin 256)
    (ho : o + c.val < 4608) :
    View.readAt (Elt Ideal) arg2.view (Rect.unit (s := S256x4608) ![0, o] S256x256.size inb).toLoadRect (harg2.unread x1) (ix2 i c)
      = x1 (ix2 i ⟨o + c.val, ho⟩) := by
  rw [View.readAt_apply, harg2.read_unread]
  congr 1
  funext a
  match a with
  | ⟨0, _⟩ => exact Fin.ext (by show 0 + 1 * i.val = i.val; omega)
  | ⟨1, _⟩ => exact Fin.ext (by show o + 1 * c.val = o + c.val; omega)

/-- The permutation acts within each 256-column chunk. -/
theorem src_chunk (g c : ℕ) : src (256 * g + c) = 256 * g + src c := by
  unfold src
  have h1 : (256 * g + c) / 64 = 4 * g + c / 64 := by omega
  have h2 : (256 * g + c) % 64 = c % 64 := by omega
  rw [h1, h2]; omega

theorem mem8 (o : ℕ) (inb : ∀ a, (![0, 0, o] : Fin 3 → ℕ) a + S128x2x256.size a ≤ S128x2x4608.size a) (y : S128x2x4608.Idx)
    (h : o ≤ (y 2).val) (h' : (y 2).val < o + 256) : y ∈ (Rect.unit (s := S128x2x4608) ![0, 0, o] S128x2x256.size inb).set := by
  rw [Rect.mem_set_unit]
  intro a
  match a with
  | ⟨0, _⟩ => exact ⟨Nat.zero_le _, by have h : (y 0).val < 128 := (y 0).isLt; show (y 0).val < 0 + 128; omega⟩
  | ⟨1, _⟩ => exact ⟨Nat.zero_le _, by have h : (y 1).val < 2 := (y 1).isLt; show (y 1).val < 0 + 2; omega⟩
  | ⟨2, _⟩ => exact ⟨h, h'⟩

/-- A permuted chunk stored right of the chunks already stored. -/
theorem xp_step (g : ℕ) (hg : g < 18) (inb2 : ∀ a, (![0, 256 * g] : Fin 2 → ℕ) a + S256x256.size a ≤ S256x4608.size a)
    (inb8 : ∀ a, (![0, 0, 256 * g] : Fin 3 → ℕ) a + S128x2x256.size a ≤ S128x2x4608.size a)
    {L : List (View.Piece (Elt Ideal) S128x2x4608 .bf16)} (h : Good (s := S128x2x4608) (XP x1) 2 L (256 * g)) :
    Good (s := S128x2x4608) (XP x1) 2 (⟨Rect.unit (s := S128x2x4608) ![0, 0, 256 * g] S128x2x256.size inb8,
      k0_pay7 k0_pay2 (View.readAt (Elt Ideal) arg2.view (Rect.unit (s := S256x4608) ![0, 256 * g] S256x256.size inb2).toLoadRect
        (harg2.unread x1))⟩ :: L) (256 * g + 256) := by
  refine good_cons _ h (fun x => ?_) (fun y h1 h2 => mem8 (256 * g) inb8 y h1 h2)
  obtain ⟨q, s, c, rfl⟩ : ∃ (q : Fin 128) (s : Fin 2) (c : Fin 256), x = ix3 q s c := ⟨x 0, x 1, x 2, eq_ix3 x⟩
  have hs := src_lt (n := 4) c.isLt
  refine (pay7_apply _ q s c).trans ?_
  rw [loadX harg2 x1 (256 * g) inb2 _ _ (by show 256 * g + src c.val < 4608; omega)]
  have e0 : (((Rect.unit (s := S128x2x4608) ![0, 0, 256 * g] S128x2x256.size inb8).emb (ix3 q s c)) 0).val = q.val := by
    show 0 + 1 * q.val = _; omega
  have e1 : (((Rect.unit (s := S128x2x4608) ![0, 0, 256 * g] S128x2x256.size inb8).emb (ix3 q s c)) 1).val = s.val := by
    show 0 + 1 * s.val = _; omega
  have e2 : (((Rect.unit (s := S128x2x4608) ![0, 0, 256 * g] S128x2x256.size inb8).emb (ix3 q s c)) 2).val = 256 * g + c.val := by
    show 256 * g + 1 * c.val = _; omega
  unfold XP
  rw [e0, e1, e2, src_chunk]
  unfold XN
  rw [dif_pos ⟨by omega, by omega⟩]

end perm

/-! ## The output -/

section out
variable (x0 : Vec Ideal S1 .f32) (x1 : Vec Ideal S256x4608 .bf16) (x2 : Vec Ideal S16x128 .bf16) (x3 : Vec Ideal S2304x1024 .i8)
  (x4 : Vec Ideal S72x1024 .i8) (x5 : Vec Ideal S1x72x4 .f32)

theorem mem7 (o : ℕ) (inb : ∀ a, (![0, o] : Fin 2 → ℕ) a + S256x256.size a ≤ S256x1024.size a) (y : S256x1024.Idx)
    (h : o ≤ (y 1).val) (h' : (y 1).val < o + 256) : y ∈ (Rect.unit (s := S256x1024) ![0, o] S256x256.size inb).set := by
  rw [Rect.mem_set_unit]
  intro a
  match a with
  | ⟨0, _⟩ => exact ⟨Nat.zero_le _, by have h : (y 0).val < 256 := (y 0).isLt; show (y 0).val < 0 + 256; omega⟩
  | ⟨1, _⟩ => exact ⟨h, h'⟩

/-- A column group's product stored right of the groups already stored. -/
theorem out_step (g : ℕ) (hg : g < 4) (inb7 : ∀ a, (![0, 256 * g] : Fin 2 → ℕ) a + S256x256.size a ≤ S256x1024.size a)
    (w : Vec Ideal S2304x2x256 .bf16) (hw : w = WD (NL x2) (AM x0 x4 x5) (WB x3) g)
    (xp : Vec Ideal S128x2x4608 .bf16) (hxp : xp = XP x1)
    {L : List (View.Piece (Elt Ideal) S256x1024 .bf16)} (h : Good (s := S256x1024) (OUT x0 x1 x2 x3 x4 x5) 1 L (256 * g)) :
    Good (s := S256x1024) (OUT x0 x1 x2 x3 x4 x5) 1 (⟨Rect.unit (s := S256x1024) ![0, 256 * g] S256x256.size inb7,
      k0_pay130 xp w⟩ :: L) (256 * g + 256) := by
  subst hw hxp
  refine good_cons _ h (fun x => ?_) (fun y h1 h2 => mem7 (256 * g) inb7 y h1 h2)
  obtain ⟨i, c, rfl⟩ : ∃ (i : Fin 256) (c : Fin 256), x = ix2 i c := ⟨x 0, x 1, eq_ix2 x⟩
  refine (dot_apply _ _ i c).trans ?_
  have e0 : (((Rect.unit (s := S256x1024) ![0, 256 * g] S256x256.size inb7).emb (ix2 i c)) 0).val = i.val := by
    show 0 + 1 * i.val = _; omega
  have e1 : (((Rect.unit (s := S256x1024) ![0, 256 * g] S256x256.size inb7).emb (ix2 i c)) 1).val = 256 * g + c.val := by
    show 256 * g + 1 * c.val = _; omega
  unfold OUT
  rw [e0, e1]
  have h1 : (256 * g + c.val) / 256 = g := by omega
  have h2 : (256 * g + c.val) % 256 = c.val := by omega
  rw [h1, h2]
  refine Finset.sum_congr rfl fun k _ => ?_
  have hi : 2 * (i.val / 2) + i.val % 2 = i.val := by omega
  show XN x1 (2 * (i.val / 2) + i.val % 2) (src k.val) * wdF _ _ _ g (k.val / 2) (k.val % 2) c.val = _
  rw [hi]

end out

end Cert.KernelIdeal.Own
end
-- ==== Proof.Lists.lean ====
/- The lists of pieces the body stores, written out: the activations' eighteen chunks and the absmax's four column groups; and
   what a load of the weight buffer reads once a group's loops have stored it. -/
module
public import proofs.«01_k».proof.Proof.Values

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section lists
variable {arg1 : Memref sig .tc .smem S1 .f32} (harg1 : arg1.IsWhole) {arg2 : Memref sig .tc .vmem S256x4608 .bf16} (harg2 : arg2.IsWhole)
  {arg3 : Memref sig .tc .vmem S16x128 .bf16} (harg3 : arg3.IsWhole) {arg4 : Memref sig .tc .vmem S2304x1024 .i8} (harg4 : arg4.IsWhole)
  {arg5 : Memref sig .tc .vmem S72x1024 .i8} (harg5 : arg5.IsWhole) {arg6 : Memref sig .tc .vmem S1x72x4 .f32} (harg6 : arg6.IsWhole)
  (x0 : Vec Ideal S1 .f32) (x1 : Vec Ideal S256x4608 .bf16) (x2 : Vec Ideal S16x128 .bf16) (x3 : Vec Ideal S2304x1024 .i8)
  (x4 : Vec Ideal S72x1024 .i8) (x5 : Vec Ideal S1x72x4 .f32)

/-- The chunks of permuted activations, the last stored first. -/
def xpPieces : List (View.Piece (Elt Ideal) S128x2x4608 .bf16) :=
  [⟨Rect.unit (s := S128x2x4608) ![0, 0, 4352] S128x2x256.size inb_S128x2x4608_S128x2x256_0_0_4352, k0_pay7 k0_pay2 (View.readAt (Elt Ideal) arg2.view (Rect.unit (s := S256x4608) ![0, 4352] S256x256.size inb_S256x4608_S256x256_0_4352).toLoadRect (harg2.unread x1))⟩,
   ⟨Rect.unit (s := S128x2x4608) ![0, 0, 4096] S128x2x256.size inb_S128x2x4608_S128x2x256_0_0_4096, k0_pay7 k0_pay2 (View.readAt (Elt Ideal) arg2.view (Rect.unit (s := S256x4608) ![0, 4096] S256x256.size inb_S256x4608_S256x256_0_4096).toLoadRect (harg2.unread x1))⟩,
   ⟨Rect.unit (s := S128x2x4608) ![0, 0, 3840] S128x2x256.size inb_S128x2x4608_S128x2x256_0_0_3840, k0_pay7 k0_pay2 (View.readAt (Elt Ideal) arg2.view (Rect.unit (s := S256x4608) ![0, 3840] S256x256.size inb_S256x4608_S256x256_0_3840).toLoadRect (harg2.unread x1))⟩,
   ⟨Rect.unit (s := S128x2x4608) ![0, 0, 3584] S128x2x256.size inb_S128x2x4608_S128x2x256_0_0_3584, k0_pay7 k0_pay2 (View.readAt (Elt Ideal) arg2.view (Rect.unit (s := S256x4608) ![0, 3584] S256x256.size inb_S256x4608_S256x256_0_3584).toLoadRect (harg2.unread x1))⟩,
   ⟨Rect.unit (s := S128x2x4608) ![0, 0, 3328] S128x2x256.size inb_S128x2x4608_S128x2x256_0_0_3328, k0_pay7 k0_pay2 (View.readAt (Elt Ideal) arg2.view (Rect.unit (s := S256x4608) ![0, 3328] S256x256.size inb_S256x4608_S256x256_0_3328).toLoadRect (harg2.unread x1))⟩,
   ⟨Rect.unit (s := S128x2x4608) ![0, 0, 3072] S128x2x256.size inb_S128x2x4608_S128x2x256_0_0_3072, k0_pay7 k0_pay2 (View.readAt (Elt Ideal) arg2.view (Rect.unit (s := S256x4608) ![0, 3072] S256x256.size inb_S256x4608_S256x256_0_3072).toLoadRect (harg2.unread x1))⟩,
   ⟨Rect.unit (s := S128x2x4608) ![0, 0, 2816] S128x2x256.size inb_S128x2x4608_S128x2x256_0_0_2816, k0_pay7 k0_pay2 (View.readAt (Elt Ideal) arg2.view (Rect.unit (s := S256x4608) ![0, 2816] S256x256.size inb_S256x4608_S256x256_0_2816).toLoadRect (harg2.unread x1))⟩,
   ⟨Rect.unit (s := S128x2x4608) ![0, 0, 2560] S128x2x256.size inb_S128x2x4608_S128x2x256_0_0_2560, k0_pay7 k0_pay2 (View.readAt (Elt Ideal) arg2.view (Rect.unit (s := S256x4608) ![0, 2560] S256x256.size inb_S256x4608_S256x256_0_2560).toLoadRect (harg2.unread x1))⟩,
   ⟨Rect.unit (s := S128x2x4608) ![0, 0, 2304] S128x2x256.size inb_S128x2x4608_S128x2x256_0_0_2304, k0_pay7 k0_pay2 (View.readAt (Elt Ideal) arg2.view (Rect.unit (s := S256x4608) ![0, 2304] S256x256.size inb_S256x4608_S256x256_0_2304).toLoadRect (harg2.unread x1))⟩,
   ⟨Rect.unit (s := S128x2x4608) ![0, 0, 2048] S128x2x256.size inb_S128x2x4608_S128x2x256_0_0_2048, k0_pay7 k0_pay2 (View.readAt (Elt Ideal) arg2.view (Rect.unit (s := S256x4608) ![0, 2048] S256x256.size inb_S256x4608_S256x256_0_2048).toLoadRect (harg2.unread x1))⟩,
   ⟨Rect.unit (s := S128x2x4608) ![0, 0, 1792] S128x2x256.size inb_S128x2x4608_S128x2x256_0_0_1792, k0_pay7 k0_pay2 (View.readAt (Elt Ideal) arg2.view (Rect.unit (s := S256x4608) ![0, 1792] S256x256.size inb_S256x4608_S256x256_0_1792).toLoadRect (harg2.unread x1))⟩,
   ⟨Rect.unit (s := S128x2x4608) ![0, 0, 1536] S128x2x256.size inb_S128x2x4608_S128x2x256_0_0_1536, k0_pay7 k0_pay2 (View.readAt (Elt Ideal) arg2.view (Rect.unit (s := S256x4608) ![0, 1536] S256x256.size inb_S256x4608_S256x256_0_1536).toLoadRect (harg2.unread x1))⟩,
   ⟨Rect.unit (s := S128x2x4608) ![0, 0, 1280] S128x2x256.size inb_S128x2x4608_S128x2x256_0_0_1280, k0_pay7 k0_pay2 (View.readAt (Elt Ideal) arg2.view (Rect.unit (s := S256x4608) ![0, 1280] S256x256.size inb_S256x4608_S256x256_0_1280).toLoadRect (harg2.unread x1))⟩,
   ⟨Rect.unit (s := S128x2x4608) ![0, 0, 1024] S128x2x256.size inb_S128x2x4608_S128x2x256_0_0_1024, k0_pay7 k0_pay2 (View.readAt (Elt Ideal) arg2.view (Rect.unit (s := S256x4608) ![0, 1024] S256x256.size inb_S256x4608_S256x256_0_1024).toLoadRect (harg2.unread x1))⟩,
   ⟨Rect.unit (s := S128x2x4608) ![0, 0, 768] S128x2x256.size inb_S128x2x4608_S128x2x256_0_0_768, k0_pay7 k0_pay2 (View.readAt (Elt Ideal) arg2.view (Rect.unit (s := S256x4608) ![0, 768] S256x256.size inb_S256x4608_S256x256_0_768).toLoadRect (harg2.unread x1))⟩,
   ⟨Rect.unit (s := S128x2x4608) ![0, 0, 512] S128x2x256.size inb_S128x2x4608_S128x2x256_0_0_512, k0_pay7 k0_pay2 (View.readAt (Elt Ideal) arg2.view (Rect.unit (s := S256x4608) ![0, 512] S256x256.size inb_S256x4608_S256x256_0_512).toLoadRect (harg2.unread x1))⟩,
   ⟨Rect.unit (s := S128x2x4608) ![0, 0, 256] S128x2x256.size inb_S128x2x4608_S128x2x256_0_0_256, k0_pay7 k0_pay2 (View.readAt (Elt Ideal) arg2.view (Rect.unit (s := S256x4608) ![0, 256] S256x256.size inb_S256x4608_S256x256_0_256).toLoadRect (harg2.unread x1))⟩,
   ⟨Rect.unit (s := S128x2x4608) ![0, 0, 0] S128x2x256.size inb_S128x2x4608_S128x2x256_0_0_0, k0_pay7 k0_pay2 (View.readAt (Elt Ideal) arg2.view (Rect.unit (s := S256x4608) ![0, 0] S256x256.size inb_S256x4608_S256x256_0_0).toLoadRect (harg2.unread x1))⟩]

/-- They hold the permuted activations and cover the buffer. -/
theorem xp_list : Good (s := S128x2x4608) (XP x1) 2 (xpPieces harg2 x1) 4608 :=
  (xp_step harg2 x1 17 (by decide) _ _ (xp_step harg2 x1 16 (by decide) _ _ (xp_step harg2 x1 15 (by decide) _ _ (xp_step harg2 x1 14 (by decide) _ _ (xp_step harg2 x1 13 (by decide) _ _ (xp_step harg2 x1 12 (by decide) _ _ (xp_step harg2 x1 11 (by decide) _ _ (xp_step harg2 x1 10 (by decide) _ _ (xp_step harg2 x1 9 (by decide) _ _ (xp_step harg2 x1 8 (by decide) _ _ (xp_step harg2 x1 7 (by decide) _ _ (xp_step harg2 x1 6 (by decide) _ _ (xp_step harg2 x1 5 (by decide) _ _ (xp_step harg2 x1 4 (by decide) _ _ (xp_step harg2 x1 3 (by decide) _ _ (xp_step harg2 x1 2 (by decide) _ _ (xp_step harg2 x1 1 (by decide) _ _ (xp_step harg2 x1 0 (by decide) _ _ (good_nil _ _)))))))))))))))))))

/-- The absmax of the four column groups, the last stored first. -/
def amPieces : List (View.Piece (Elt Ideal) S72x2x1024 .bf16) :=
  [⟨Rect.unit (s := S72x2x1024) ![0, 0, 768] S72x2x256.size inb_S72x2x1024_S72x2x256_0_0_768, k0_pay119 (View.readAt (Elt Ideal) arg5.view (Rect.unit (s := S72x1024) ![0, 768] S72x256.size inb_S72x1024_S72x256_0_768).toLoadRect (harg5.unread x4)) (View.readAt (Elt Ideal) arg6.view (Rect.unit (s := S1x72x4) ![0, 0, 3] S1x72x1.size inb_S1x72x4_S1x72x1_0_0_3).toLoadRect (harg6.unread x5)) (View.readAt (Elt Ideal) arg1.view (Rect.unit (s := S1) ![0] S1.size inb_S1_S1_0).toLoadRect (harg1.unread x0) (Shape.Idx.first (by decide)))⟩,
   ⟨Rect.unit (s := S72x2x1024) ![0, 0, 512] S72x2x256.size inb_S72x2x1024_S72x2x256_0_0_512, k0_pay119 (View.readAt (Elt Ideal) arg5.view (Rect.unit (s := S72x1024) ![0, 512] S72x256.size inb_S72x1024_S72x256_0_512).toLoadRect (harg5.unread x4)) (View.readAt (Elt Ideal) arg6.view (Rect.unit (s := S1x72x4) ![0, 0, 2] S1x72x1.size inb_S1x72x4_S1x72x1_0_0_2).toLoadRect (harg6.unread x5)) (View.readAt (Elt Ideal) arg1.view (Rect.unit (s := S1) ![0] S1.size inb_S1_S1_0).toLoadRect (harg1.unread x0) (Shape.Idx.first (by decide)))⟩,
   ⟨Rect.unit (s := S72x2x1024) ![0, 0, 256] S72x2x256.size inb_S72x2x1024_S72x2x256_0_0_256, k0_pay119 (View.readAt (Elt Ideal) arg5.view (Rect.unit (s := S72x1024) ![0, 256] S72x256.size inb_S72x1024_S72x256_0_256).toLoadRect (harg5.unread x4)) (View.readAt (Elt Ideal) arg6.view (Rect.unit (s := S1x72x4) ![0, 0, 1] S1x72x1.size inb_S1x72x4_S1x72x1_0_0_1).toLoadRect (harg6.unread x5)) (View.readAt (Elt Ideal) arg1.view (Rect.unit (s := S1) ![0] S1.size inb_S1_S1_0).toLoadRect (harg1.unread x0) (Shape.Idx.first (by decide)))⟩,
   ⟨Rect.unit (s := S72x2x1024) ![0, 0, 0] S72x2x256.size inb_S72x2x1024_S72x2x256_0_0_0, k0_pay119 (View.readAt (Elt Ideal) arg5.view (Rect.unit (s := S72x1024) ![0, 0] S72x256.size inb_S72x1024_S72x256_0_0).toLoadRect (harg5.unread x4)) (View.readAt (Elt Ideal) arg6.view (Rect.unit (s := S1x72x4) ![0, 0, 0] S1x72x1.size inb_S1x72x4_S1x72x1_0_0_0).toLoadRect (harg6.unread x5)) (View.readAt (Elt Ideal) arg1.view (Rect.unit (s := S1) ![0] S1.size inb_S1_S1_0).toLoadRect (harg1.unread x0) (Shape.Idx.first (by decide)))⟩]

/-- They hold the absmax and cover the buffer. -/
theorem am_list : Good (s := S72x2x1024) (AMbuf x0 x4 x5) 2 (amPieces harg1 harg5 harg6 x0 x4 x5) 1024 :=
  have hr := load1 harg1 x0 inb_S1_S1_0 (Shape.Idx.first (by decide))
  (am_step harg5 harg6 x0 x4 x5 3 (by decide) _ _ _ _ hr (am_step harg5 harg6 x0 x4 x5 2 (by decide) _ _ _ _ hr (am_step harg5 harg6 x0 x4 x5 1 (by decide) _ _ _ _ hr (am_step harg5 harg6 x0 x4 x5 0 (by decide) _ _ _ _ hr (good_nil _ _)))))

/-- The table's levels, loaded. -/
theorem loadN (r : Fin 16) (l : Fin 128) :
    (View.readAt (Elt Ideal) arg3.view (Rect.unit (s := S16x128) ![0, 0] S16x128.size inb_S16x128_S16x128_0_0).toLoadRect (harg3.unread x2) : FVec Ideal S16x128 .bf16)
      (ix2 r l) = NL x2 r.val l.val := by
  rw [View.readAt_full, harg3.read_unread]
  unfold NL
  rw [dif_pos ⟨r.isLt, l.isLt⟩]

/-- The packed codes, read. -/
theorem loadW (y : S2304x1024.Idx) : (arg4.view.read (Elt Ideal) (harg4.unread x3) y : BitVec 8).toNat = WB x3 (y 0).val (y 1).val := by
  rw [harg4.read_unread]
  obtain ⟨r, c, rfl⟩ : ∃ (r : Fin 2304) (c : Fin 1024), y = ix2 r c := ⟨y 0, y 1, eq_ix2 y⟩
  unfold WB
  rw [dif_pos ⟨r.isLt, c.isLt⟩]
  rfl

end lists

/-- A load of the whole weight buffer after two loops' pieces, stored over earlier ones. -/
theorem wload {arg10 : Memref sig .tc .vmem S2304x2x256 .bf16} {w : Vec Ideal S2304x2x256 .bf16} {L1 L2 L' : List (View.Piece (Elt Ideal) S2304x2x256 .bf16)}
    (h : ∀ G, arg10.view.read (Elt Ideal) (arg10.view.writes (Elt Ideal) G (L2 ++ L1)) = w) {f : arg10.view.ty.Contents (Elt Ideal)}
    {inb : ∀ a, (![0, 0, 0] : Fin 3 → ℕ) a + S2304x2x256.size a ≤ S2304x2x256.size a} :
    View.readAt (Elt Ideal) arg10.view (Rect.unit (s := S2304x2x256) ![0, 0, 0] S2304x2x256.size inb).toLoadRect
      (arg10.view.writes (Elt Ideal) f (L2 ++ (L1 ++ L'))) = w := by
  rw [View.readAt_full, ← List.append_assoc, View.writes_append]; exact h _

/-- The same of the first two loops'. -/
theorem wload0 {arg10 : Memref sig .tc .vmem S2304x2x256 .bf16} {w : Vec Ideal S2304x2x256 .bf16} {L1 L2 : List (View.Piece (Elt Ideal) S2304x2x256 .bf16)}
    (h : ∀ G, arg10.view.read (Elt Ideal) (arg10.view.writes (Elt Ideal) G (L2 ++ L1)) = w) {f : arg10.view.ty.Contents (Elt Ideal)}
    {inb : ∀ a, (![0, 0, 0] : Fin 3 → ℕ) a + S2304x2x256.size a ≤ S2304x2x256.size a} :
    View.readAt (Elt Ideal) arg10.view (Rect.unit (s := S2304x2x256) ![0, 0, 0] S2304x2x256.size inb).toLoadRect
      (arg10.view.writes (Elt Ideal) f (L2 ++ L1)) = w := by
  rw [View.readAt_full]; exact h _

end Cert.KernelIdeal.Own

end
-- ==== Proof.RunA.lean ====
/- The run of the idealized body, case A, with the value it leaves. -/
module
public import proofs.«01_k».proof.Proof.Lists

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large)
set_option maxHeartbeats 4000000 in
/-- The body's triple at the first point, which fills the activation buffer: on whole staging memrefs, the inputs' at their contents, the body runs to the
    continuation holding the inputs' as they were, the output at the point's value, the activation buffer at the permuted
    activations, and the other scratch at some contents. -/
theorem kernelRun0_A (c : Dev nD) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x2x4608 .bf16) (harg8 : arg8.IsWhole) (arg9 : Memref sig .tc .vmem S72x2x1024 .bf16) (harg9 : arg9.IsWhole) (arg10 : Memref sig .tc .vmem S2304x2x256 .bf16) (harg10 : arg10.IsWhole) (hc0 : cond0_0 i)
    (x0 : Vec Ideal S1 .f32) (x1 : Vec Ideal S256x4608 .bf16) (x2 : Vec Ideal S16x128 .bf16) (x3 : Vec Ideal S2304x1024 .i8) (x4 : Vec Ideal S72x1024 .i8) (x5 : Vec Ideal S1x72x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 x1 x2 x3 x4 x5) ∗ owns (c : Thread nD τ) arg8 fullShare (XP x1) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_nf4_linear i arg1 harg1 arg2 harg2 arg3 harg3 arg4 harg4 arg5 harg5 arg6 harg6 arg7 harg7 arg8 harg8 arg9 harg9 arg10 harg10) K := by
    intro E K
    simp only [cc0_nf4_linear_eq_skeleton]; unfold cc0_nf4_linear_skel
    simp only [k0_part23_eq_skeleton, k0_part1_eq_skeleton, k0_part2_eq_skeleton, k0_part3_eq_skeleton, k0_part4_eq_skeleton, k0_part5_eq_skeleton, k0_part6_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    have hN : ∀ (r : Fin 16) (l : Fin 128), (View.readAt (Elt Ideal) arg3.view (Rect.unit ![0, 0] S16x128.size inb_S16x128_S16x128_0_0).toLoadRect (harg3.unread x2) : FVec Ideal S16x128 .bf16) (ix2 r l) = NL x2 r.val l.val := fun r l => loadN harg3 x2 r l
    have hN2 : ∀ (r : Fin 16) (l : Fin 128), (k0_pay127 (View.readAt (Elt Ideal) arg3.view (Rect.unit ![0, 0] S16x128.size inb_S16x128_S16x128_0_0).toLoadRect (harg3.unread x2)) : FVec Ideal S16x128 .bf16) (ix2 r l) = NL x2 r.val l.val := fun r l => (levels_apply _ r l).trans (hN r l)
    have hW : ∀ y, (arg4.view.read (Elt Ideal) (harg4.unread x3) y : BitVec 8).toNat = WB x3 (y 0).val (y 1).val := fun y => loadW harg4 x3 y
    have hr := load1 harg1 x0 inb_S1_S1_0 (Shape.Idx.first (by decide))
    have ham := am_list harg1 harg5 harg6 x0 x4 x5
    have hA : ∀ y, arg9.view.read (Elt Ideal) (arg9.view.writes (Elt Ideal) arg9.view.junk (amPieces harg1 harg5 harg6 x0 x4 x5)) y = AM x0 x4 x5 (y 0).val (y 2).val := fun y => congrFun (good_read ham _) y
    have hx := xp_list harg2 x1
    have hxp : View.readAt (Elt Ideal) arg8.view (Rect.unit (s := S128x2x4608) ![0, 0, 0] S128x2x4608.size inb_S128x2x4608_S128x2x4608_0_0_0).toLoadRect (arg8.view.writes (Elt Ideal) arg8.view.junk (xpPieces harg2 x1)) = XP x1 := (View.readAt_full _ _ _).trans (good_read hx _)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      exact good_read (out_step x0 x1 x2 x3 x4 x5 3 (by decide) _ _ ((wload (fun G => wd4 Variants.none c none i arg1 harg1 arg2 harg2 arg3 harg3 arg4 harg4 arg5 harg5 arg6 harg6 arg7 harg7 arg8 harg8 arg9 harg9 arg10 harg10 (NL x2) (AM x0 x4 x5) (WB x3) _ _ _ _ _ _ hN2 hA hW G))) _ hxp ((out_step x0 x1 x2 x3 x4 x5 2 (by decide) _ _ ((wload (fun G => wd3 Variants.none c none i arg1 harg1 arg2 harg2 arg3 harg3 arg4 harg4 arg5 harg5 arg6 harg6 arg7 harg7 arg8 harg8 arg9 harg9 arg10 harg10 (NL x2) (AM x0 x4 x5) (WB x3) _ _ _ _ _ _ hN2 hA hW G))) _ hxp ((out_step x0 x1 x2 x3 x4 x5 1 (by decide) _ _ ((wload (fun G => wd2 Variants.none c none i arg1 harg1 arg2 harg2 arg3 harg3 arg4 harg4 arg5 harg5 arg6 harg6 arg7 harg7 arg8 harg8 arg9 harg9 arg10 harg10 (NL x2) (AM x0 x4 x5) (WB x3) _ _ _ _ _ hN hA hW G))) _ hxp ((out_step x0 x1 x2 x3 x4 x5 0 (by decide) _ _ ((wload0 (fun G => wd1 Variants.none c none i arg1 harg1 arg2 harg2 arg3 harg3 arg4 harg4 arg5 harg5 arg6 harg6 arg7 harg7 arg8 harg8 arg9 harg9 arg10 harg10 (NL x2) (AM x0 x4 x5) (WB x3) _ _ _ _ _ hN hA hW G))) _ hxp (good_nil _ _)))))))) _
    isplitl [HS0]
    · iexists _; isplitr; swap; · iexact HS0
      ipureintro; exact good_read (xp_list harg2 x1) _
    isplitl [HS1]
    · iexists _, _; isplitr; swap; · iexact HS1
      ipureintro; rfl
    iexists _, _; isplitr; swap; · iexact HS2
    ipureintro; rfl

end Cert.KernelIdeal.Own

end
-- ==== Proof.RunB.lean ====
/- The run of the idealized body, case B, with the value it leaves. -/
module
public import proofs.«01_k».proof.Proof.RunA

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large)
set_option maxHeartbeats 4000000 in
/-- The body's triple at every later point, which finds the activation buffer filled: on whole staging memrefs, the inputs' at their contents, the body runs to the
    continuation holding the inputs' as they were, the output at the point's value, the activation buffer at the permuted
    activations, and the other scratch at some contents. -/
theorem kernelRun0_B (c : Dev nD) (i : grid0.Coords) (arg1 : Memref sig .tc .smem S1 .f32) (harg1 : arg1.IsWhole) (arg2 : Memref sig .tc .vmem S256x4608 .bf16) (harg2 : arg2.IsWhole) (arg3 : Memref sig .tc .vmem S16x128 .bf16) (harg3 : arg3.IsWhole) (arg4 : Memref sig .tc .vmem S2304x1024 .i8) (harg4 : arg4.IsWhole) (arg5 : Memref sig .tc .vmem S72x1024 .i8) (harg5 : arg5.IsWhole) (arg6 : Memref sig .tc .vmem S1x72x4 .f32) (harg6 : arg6.IsWhole) (arg7 : Memref sig .tc .vmem S256x1024 .bf16) (harg7 : arg7.IsWhole) (arg8 : Memref sig .tc .vmem S128x2x4608 .bf16) (harg8 : arg8.IsWhole) (arg9 : Memref sig .tc .vmem S72x2x1024 .bf16) (harg9 : arg9.IsWhole) (arg10 : Memref sig .tc .vmem S2304x2x256 .bf16) (harg10 : arg10.IsWhole) (hc0 : ¬cond0_0 i)
    (x0 : Vec Ideal S1 .f32) (x1 : Vec Ideal S256x4608 .bf16) (x2 : Vec Ideal S16x128 .bf16) (x3 : Vec Ideal S2304x1024 .i8) (x4 : Vec Ideal S72x1024 .i8) (x5 : Vec Ideal S1x72x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (XP x1) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 x1 x2 x3 x4 x5) ∗ owns (c : Thread nD τ) arg8 fullShare (XP x1) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_nf4_linear i arg1 harg1 arg2 harg2 arg3 harg3 arg4 harg4 arg5 harg5 arg6 harg6 arg7 harg7 arg8 harg8 arg9 harg9 arg10 harg10) K := by
    intro E K
    simp only [cc0_nf4_linear_eq_skeleton]; unfold cc0_nf4_linear_skel
    simp only [k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    have hN : ∀ (r : Fin 16) (l : Fin 128), (View.readAt (Elt Ideal) arg3.view (Rect.unit ![0, 0] S16x128.size inb_S16x128_S16x128_0_0).toLoadRect (harg3.unread x2) : FVec Ideal S16x128 .bf16) (ix2 r l) = NL x2 r.val l.val := fun r l => loadN harg3 x2 r l
    have hN2 : ∀ (r : Fin 16) (l : Fin 128), (k0_pay127 (View.readAt (Elt Ideal) arg3.view (Rect.unit ![0, 0] S16x128.size inb_S16x128_S16x128_0_0).toLoadRect (harg3.unread x2)) : FVec Ideal S16x128 .bf16) (ix2 r l) = NL x2 r.val l.val := fun r l => (levels_apply _ r l).trans (hN r l)
    have hW : ∀ y, (arg4.view.read (Elt Ideal) (harg4.unread x3) y : BitVec 8).toNat = WB x3 (y 0).val (y 1).val := fun y => loadW harg4 x3 y
    have hr := load1 harg1 x0 inb_S1_S1_0 (Shape.Idx.first (by decide))
    have ham := am_list harg1 harg5 harg6 x0 x4 x5
    have hA : ∀ y, arg9.view.read (Elt Ideal) (arg9.view.writes (Elt Ideal) arg9.view.junk (amPieces harg1 harg5 harg6 x0 x4 x5)) y = AM x0 x4 x5 (y 0).val (y 2).val := fun y => congrFun (good_read ham _) y
    have hxp : View.readAt (Elt Ideal) arg8.view (Rect.unit (s := S128x2x4608) ![0, 0, 0] S128x2x4608.size inb_S128x2x4608_S128x2x4608_0_0_0).toLoadRect fs0 = XP x1 := (View.readAt_full _ _ _).trans hfs0
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      exact good_read (out_step x0 x1 x2 x3 x4 x5 3 (by decide) _ _ ((wload (fun G => wd4 Variants.none c none i arg1 harg1 arg2 harg2 arg3 harg3 arg4 harg4 arg5 harg5 arg6 harg6 arg7 harg7 arg8 harg8 arg9 harg9 arg10 harg10 (NL x2) (AM x0 x4 x5) (WB x3) _ _ _ _ _ _ hN2 hA hW G))) _ hxp ((out_step x0 x1 x2 x3 x4 x5 2 (by decide) _ _ ((wload (fun G => wd3 Variants.none c none i arg1 harg1 arg2 harg2 arg3 harg3 arg4 harg4 arg5 harg5 arg6 harg6 arg7 harg7 arg8 harg8 arg9 harg9 arg10 harg10 (NL x2) (AM x0 x4 x5) (WB x3) _ _ _ _ _ _ hN2 hA hW G))) _ hxp ((out_step x0 x1 x2 x3 x4 x5 1 (by decide) _ _ ((wload (fun G => wd2 Variants.none c none i arg1 harg1 arg2 harg2 arg3 harg3 arg4 harg4 arg5 harg5 arg6 harg6 arg7 harg7 arg8 harg8 arg9 harg9 arg10 harg10 (NL x2) (AM x0 x4 x5) (WB x3) _ _ _ _ _ hN hA hW G))) _ hxp ((out_step x0 x1 x2 x3 x4 x5 0 (by decide) _ _ ((wload0 (fun G => wd1 Variants.none c none i arg1 harg1 arg2 harg2 arg3 harg3 arg4 harg4 arg5 harg5 arg6 harg6 arg7 harg7 arg8 harg8 arg9 harg9 arg10 harg10 (NL x2) (AM x0 x4 x5) (WB x3) _ _ _ _ _ hN hA hW G))) _ hxp (good_nil _ _)))))))) _
    isplitl [HS0]
    · iexists _; isplitr; swap; · iexact HS0
      ipureintro; exact hfs0
    isplitl [HS1]
    · iexists _, _; isplitr; swap; · iexact HS1
      ipureintro; rfl
    iexists _, _; isplitr; swap; · iexact HS2
    ipureintro; rfl

end Cert.KernelIdeal.Own

end
-- ==== Proof.Value.lean ====
/- The value of the whole run of the idealized kernel: the body obligation with each point's output named, the launch, and the
   contents every final state's result array has. -/
module

public import proofs.«01_k».proof.Proof.RunA
public import proofs.«01_k».proof.Proof.RunB
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The activations, as the kernel's second operand. -/
def XIN (c : Dev nD) : Vec Ideal S256x4608 .bf16 := fun y => V m c main_v5 y

/-- The second window's block is the whole array of activations at every point. -/
theorem iblk_x (c : Dev nD) (t : Fin cfg0.N) : iblk m c 1 t = XIN m c := by
  funext y
  unfold iblk XIN
  rw [View.read_apply]
  show V m c main_v5 _ = V m c main_v5 _
  congr 1
  funext a
  apply Fin.ext
  match a with
  | ⟨0, _⟩ => show 0 + 1 * (y 0).val = (y 0).val; omega
  | ⟨1, _⟩ => show 0 + 1 * (y 1).val = (y 1).val; omega

/-- What the kernel's scratch holds between the points: before the first anything, after it the activation buffer the permuted
    activations and the other two anything; beside it the generator's register. -/
def PhiV (c : Dev nD) (k : ℕ) : sProp 𝕄 :=
  if k = 0 then Pipeline.ΦA spec0 c
  else iprop(iprop(owns (c : Thread nD τ) scM0_0 fullShare (XP (XIN m c)) ∗ (∃ d, owns (c : Thread nD τ) scM0_1 fullShare d) ∗ (∃ d, owns (c : Thread nD τ) scM0_2 fullShare d)) ∗ (∃ r, prngReg c r))

/-- The proof data of the one pipeline on core `c`: the arrays as the region finds them; after the body at point `t` each input's
    buffer at its block and the output's at the point's value; the scratch's invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (iblk m c 0 t) (iblk m c 1 t) (iblk m c 2 t) (iblk m c 3 t) (iblk m c 4 t) (iblk m c 5 t)
  Φ k := PhiV m c k.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_6 (c : Dev nD) (t : Fin cfg0.N) : (dats m 0 c).after 6 t = OUT (iblk m c 0 t) (iblk m c 1 t) (iblk m c 2 t) (iblk m c 3 t) (iblk m c 4 t) (iblk m c 5 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the inputs' memrefs hold their blocks; at the first point the run that fills the activation buffer
    applies, at the others the run that finds it filled. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.castSucc = PhiV m c t.val from rfl, show (dats m 0 c).Φ t.succ = PhiV m c (t.val + 1) from rfl]
  rw [show PhiV m c (t.val + 1) = iprop(iprop(owns (c : Thread nD τ) scM0_0 fullShare (XP (iblk m c 1 t)) ∗ (∃ d, owns (c : Thread nD τ) scM0_1 fullShare d) ∗ (∃ d, owns (c : Thread nD τ) scM0_2 fullShare d)) ∗ (∃ r, prngReg c r)) from by
    rw [iblk_x]; unfold PhiV; rw [if_neg (Nat.succ_ne_zero _)]]
  have hN : t.val < 72 := lt_of_lt_of_eq t.isLt (show cfg0.N = 72 from N_0)
  by_cases h0 : t.val % 72 = 0
  · rw [show PhiV m c t.val = Pipeline.ΦA spec0 c from if_pos (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiV m c t.val = iprop(iprop(owns (c : Thread nD τ) scM0_0 fullShare (XP (iblk m c 1 t)) ∗ (∃ d, owns (c : Thread nD τ) scM0_1 fullShare d) ∗ (∃ d, owns (c : Thread nD τ) scM0_2 fullShare d)) ∗ (∃ r, prngReg c r)) from by
      rw [iblk_x]; unfold PhiV; rw [if_neg (by omega)]]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- At the start the invariant is the scratch at any contents. -/
theorem phi_in (c : Dev nD) : Pipeline.ΦA spec0 c ⊢ (dats m 0 c).Φ 0 := by
  rw [show (dats m 0 c).Φ 0 = PhiV m c 0 from rfl]
  unfold PhiV
  rw [if_pos rfl]

/-- At the end the invariant gives the scratch back, at some contents. -/
theorem phi_out (c : Dev nD) : (dats m 0 c).Φ (Fin.last cfg0.N) ⊢ Pipeline.ΦA spec0 c := by
  rw [show (dats m 0 c).Φ (Fin.last cfg0.N) = PhiV m c cfg0.N from rfl, PhiA0_eq]
  unfold PhiV
  rw [if_neg (by rw [show cfg0.N = 72 from N_0]; decide)]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch: every fair run of @main ends with every array of the pipeline at its final contents, every other buffer as the
    region found it, and every semaphore counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- Every fair run of @main ends with every argument array as it was. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_of m ρ (dats m) (A_eq m) ((θ_run defs _ _).mono (fun _ h => h.1) (run_main_quiescent m ρ))

/-- The frame of the idealized kernel: the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The output of point `t`. -/
@[irreducible] def POUT (c : Dev nD) (t : Fin cfg0.N) : S256x1024.Idx → Elt Ideal .bf16 :=
  OUT (iblk m c 0 t) (iblk m c 1 t) (iblk m c 2 t) (iblk m c 3 t) (iblk m c 4 t) (iblk m c 5 t)

theorem after6 (c : Dev nD) (t : Fin cfg0.N) : (dats m 0 c).after 6 t = POUT m c t := by
  rw [after0_6]; unfold POUT; rfl

/-- The result array every run leaves: column tile `j / 1024` is that point's output. -/
def RES (c : Dev nD) : S256x73728.Idx → Elt Ideal .bf16 := fun y =>
  POUT m c ⟨(y 1).val / 1024, by rw [show cfg0.N = 72 from N_0]; have h : (y 1).val < 73728 := (y 1).isLt; omega⟩
    (ix2 (⟨(y 0).val, (y 0).isLt⟩ : Fin 256) (⟨(y 1).val % 1024, Nat.mod_lt _ (by decide)⟩ : Fin 1024))

end Cert.KernelIdeal.Own

end
-- ==== Proof.Result.lean ====
/- The result array of the idealized kernel: every final state's is the column tiles' outputs side by side, each a function of the
   blocks of that tile. -/
module

public import proofs.«01_k».proof.Proof.Value

@[expose] public section

set_option maxRecDepth 16384

noncomputable section

namespace Cert.KernelIdeal.Own

open Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output's block at point `t` is the one at row block 0 and column block `t`. -/
theorem index6 : ∀ t : Fin cfg0.N, win0_6.index t 0 = 0 ∧ win0_6.index t 1 = t.val := by decide +kernel

@[inherit_doc index6]
theorem index3 : ∀ t : Fin cfg0.N, win0_3.index t 0 = 0 ∧ win0_3.index t 1 = t.val := by decide +kernel

@[inherit_doc index6]
theorem index4 : ∀ t : Fin cfg0.N, win0_4.index t 0 = 0 ∧ win0_4.index t 1 = t.val := by decide +kernel

/-- The scales' block at point `t` is the `t`-th along the first axis. -/
theorem index5 : ∀ t : Fin cfg0.N, win0_5.index t 0 = t.val ∧ win0_5.index t 1 = 0 ∧ win0_5.index t 2 = 0 := by decide +kernel

/-- The result at an index of column tile `t` is point `t`'s output there. -/
theorem RES_tile (c : Dev nD) (t : Fin cfg0.N) (z : S256x73728.Idx) (i : Fin 256) (j : Fin 1024) (h0 : (z 0).val = i.val)
    (h1 : (z 1).val = t.val * 1024 + j.val) : RES m c z = POUT m c t (ix2 i j) := by
  have hj := j.isLt
  unfold RES
  have et : ∀ h, (⟨(z 1).val / 1024, h⟩ : Fin cfg0.N) = t := fun h => Fin.ext (by show (z 1).val / 1024 = t.val; omega)
  rw [et]
  refine congrArg (POUT m c t) ?_
  funext a
  match a with
  | ⟨0, _⟩ => exact Fin.ext h0
  | ⟨1, _⟩ => exact Fin.ext (by show (z 1).val % 1024 = j.val; omega)

/-- What a point writes back is its column tile of the result. -/
theorem flushed_eq (c : Dev nD) (t : Fin cfg0.N) (_ : (cfg0.win 6).flush t = true) :
    (dats m 0 c).flushed 6 t = ((cfg0.win 6).blk t).view.read (Elt Ideal) (RES m c) := by
  show (cfg0.win 6).cut (grid0.coords t) ((dats m 0 c).after 6 t) = _
  rw [after6]
  funext y
  rw [View.read_apply]
  obtain ⟨h0, h1⟩ := index6 t
  have y0 : (y 0).val < 256 := (y 0).isLt
  have y1 : (y 1).val < 1024 := (y 1).isLt
  refine Eq.trans ?_ (RES_tile m c t _ (⟨(y 0).val, y0⟩ : Fin 256) (⟨(y 1).val, y1⟩ : Fin 1024) ?_ ?_).symm
  · refine congrArg (POUT m c t) (?_ : _ = ix2 _ _)
    funext a
    match a with
    | ⟨0, _⟩ => rfl
    | ⟨1, _⟩ => rfl
  · show win0_6.index t 0 * 256 + 1 * (y 0).val = _; rw [h0]; show 0 * 256 + 1 * (y 0).val = (y 0).val; omega
  · show win0_6.index t 1 * 1024 + 1 * (y 1).val = _; rw [h1]; show t.val * 1024 + 1 * (y 1).val = t.val * 1024 + (y 1).val; omega

/-- So the result array ends at the tiles' outputs. -/
theorem final_o (c : Dev nD) : (dats m 0 c).arrAt 6 cfg0.N = RES m c :=
  (dats m 0 c).arrAt_eq_of_cover 6 (RES m c) (flushed_eq m c) fun i => by
    have h0 : (i 0 : Nat) < 256 := (i 0).isLt
    have h1 : (i 1 : Nat) < 73728 := (i 1).isLt
    have hN : cfg0.N = 72 := N_0
    obtain ⟨t, ht⟩ : ∃ t : Fin cfg0.N, t.val = (i 1 : Nat) / 1024 := ⟨⟨(i 1 : Nat) / 1024, by rw [hN]; omega⟩, rfl⟩
    refine ⟨t, flush0_6 t, ?_⟩
    show i ∈ ((View.whole main_v6).slice (win0_6.rect t)).set
    rw [View.set_slice_whole, Rect.mem_set_unit]
    obtain ⟨e0, e1⟩ := index6 t
    intro a
    match a with
    | ⟨0, _⟩ =>
      show win0_6.index t 0 * 256 ≤ (i 0 : Nat) ∧ (i 0 : Nat) < win0_6.index t 0 * 256 + 256
      rw [e0]; omega
    | ⟨1, _⟩ =>
      show win0_6.index t 1 * 1024 ≤ (i 1 : Nat) ∧ (i 1 : Nat) < win0_6.index t 1 * 1024 + 1024
      rw [e1, ht]; omega

/-- The run, read: the result array at the tiles' outputs and every argument unchanged. -/
theorem run : θ_run defs (onTc (τ := τ) (main (F := Ideal))) ⟨m, fun _ => 0, ρ⟩ (fun r => ∀ c : Dev nD,
      r.2.mem ((c.tc : Thread nD τ).loc main_v6) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2.1 c).1 6).trans (final_o m c), h.1 c⟩)
    (θ_run_and (unchanged m ρ) (run_main_quiescent m ρ))

end Cert.KernelIdeal.Own

end
-- ==== Proof.Level.lean ====
/- What both programs compute, in natural-number coordinates: the dequantised product as one sum over the packed rows for the high
   nibbles and one for the low ones. The kernel's single sum, in its permuted order, is that. -/
module

public import proofs.«01_k».proof.Proof.Cell

@[expose] public section

noncomputable section

namespace Cert.KernelIdeal.Own

open Idealize.ShloMosaic Cert.KernelIdeal Cert.KernelIdeal.Gen

/-- The level a code names: the table's literal, as a bf16 number. -/
def lev (n : ℕ) : EReal := if h : n < 16 then FloatOps.ofBits (F := Ideal) .bf16 (lit0 ⟨n, h⟩) else 0

/-- The dequantised product at one row and column, `x k` the row's activations, `w r` the column's packed bytes and `a b` its
    absmax of block `b`: packed row `r`'s high nibble weighs activation `2 r`, its low one activation `2 r + 1`. -/
def spec (x : ℕ → EReal) (w : ℕ → ℕ) (a : ℕ → EReal) : EReal :=
  (∑ r : Fin 2304, x (2 * r.val) * (lev (w r.val / 16) * a (r.val / 32)))
    + ∑ r : Fin 2304, x (2 * r.val + 1) * (lev (w r.val % 16) * a (r.val / 32))

/-- The term of the kernel's sum at place `k`: row `k / 2`'s half `k % 2` of the dequantised weights. -/
def term (x : ℕ → EReal) (w : ℕ → ℕ) (a : ℕ → EReal) (k : ℕ) : EReal :=
  x (src k) * (lev (if k / 2 % 32 < 16 then w (byteRow (k / 2) (k % 2)) / 16 else w (byteRow (k / 2) (k % 2)) % 16) * a (k / 2 / 32))

/-- The place of the kernel's order that holds packed row `r`'s high nibble (`p = 0`) or low one (`p = 1`). -/
def place (r p : ℕ) : ℕ := 64 * (r / 32) + 32 * p + r % 32

/-- At a packed row's place, the term is that row's of the high-nibble sum. -/
theorem term_hi (x : ℕ → EReal) (w : ℕ → ℕ) (a : ℕ → EReal) (r : ℕ) :
    term x w a (place r 0) = x (2 * r) * (lev (w r / 16) * a (r / 32)) := by
  have h1 : src (place r 0) = 2 * r := by unfold src place; split <;> omega
  have h2 : place r 0 / 2 % 32 < 16 := by unfold place; omega
  have h3 : byteRow (place r 0 / 2) (place r 0 % 2) = r := by unfold byteRow place; omega
  have h4 : place r 0 / 2 / 32 = r / 32 := by unfold place; omega
  unfold term
  rw [h1, if_pos h2, h3, h4]

/-- At a packed row's other place, the term is that row's of the low-nibble sum. -/
theorem term_lo (x : ℕ → EReal) (w : ℕ → ℕ) (a : ℕ → EReal) (r : ℕ) :
    term x w a (place r 1) = x (2 * r + 1) * (lev (w r % 16) * a (r / 32)) := by
  have h1 : src (place r 1) = 2 * r + 1 := by unfold src place; split <;> omega
  have h2 : ¬ place r 1 / 2 % 32 < 16 := by unfold place; omega
  have h3 : byteRow (place r 1 / 2) (place r 1 % 2) = r := by unfold byteRow place; omega
  have h4 : place r 1 / 2 / 32 = r / 32 := by unfold place; omega
  unfold term
  rw [h1, if_neg h2, h3, h4]

/-- The places of the kernel's order are the packed rows with a nibble each. -/
def placeEquiv : Fin 2304 × Fin 2 ≃ Fin 4608 where
  toFun q := ⟨place q.1.val q.2.val, by have := q.1.isLt; have := q.2.isLt; unfold place; omega⟩
  invFun k := (⟨32 * (k.val / 64) + k.val % 32, by omega⟩, ⟨k.val % 64 / 32, by omega⟩)
  left_inv q := by
    obtain ⟨⟨r, hr⟩, ⟨p, hp⟩⟩ := q
    simp only [Prod.mk.injEq, Fin.mk.injEq, place]
    omega
  right_inv k := by
    apply Fin.ext
    show place _ _ = _
    simp only [place]
    omega

/-- The kernel's sum, in its own order, is the two sums over the packed rows. -/
theorem sum_term (x : ℕ → EReal) (w : ℕ → ℕ) (a : ℕ → EReal) : ∑ k : Fin 4608, term x w a k.val = spec x w a := by
  rw [← Equiv.sum_comp placeEquiv, Fintype.sum_prod_type]
  unfold spec
  rw [← Finset.sum_add_distrib]
  refine Finset.sum_congr rfl fun r _ => ?_
  rw [Fin.sum_univ_two]
  exact congrArg₂ (· + ·) (term_hi x w a r.val) (term_lo x w a r.val)

/-- The two-sum form depends only on the activations, bytes and absmax within range. -/
theorem spec_congr {x x' : ℕ → EReal} {w w' : ℕ → ℕ} {a a' : ℕ → EReal} (hx : ∀ k, k < 4608 → x k = x' k)
    (hw : ∀ r, r < 2304 → w r = w' r) (ha : ∀ b, b < 72 → a b = a' b) : spec x w a = spec x' w' a' := by
  unfold spec
  refine congrArg₂ (· + ·) (Finset.sum_congr rfl fun r _ => ?_) (Finset.sum_congr rfl fun r _ => ?_)
  · rw [hx _ (by omega), hw _ (by omega), ha _ (by omega)]
  · rw [hx _ (by omega), hw _ (by omega), ha _ (by omega)]

/-! ## The operands, by natural numbers (zero out of range, where nothing reads them) -/

/-- Row `i` of the activations. -/
def xAt (x : Vec Ideal S256x1x4608 .bf16) (i : ℕ) : ℕ → EReal := fun k =>
  if h : i < 256 ∧ k < 4608 then x (ix3 ⟨i, h.1⟩ (0 : Fin 1) ⟨k, h.2⟩) else 0

/-- Column `j` of the packed bytes. -/
def wAt (w : Vec Ideal S2304x73728 .i8) (j : ℕ) : ℕ → ℕ := fun r =>
  if h : r < 2304 ∧ j < 73728 then (w (ix2 ⟨r, h.1⟩ ⟨j, h.2⟩) : BitVec 8).toNat else 0

/-- Column `j` of the absmax: the code times its column group's scale, plus the offset. -/
def aAt (a : Vec Ideal S72x73728 .i8) (s : Vec Ideal S72x288 .f32) (o : Vec Ideal S_ .f32) (j : ℕ) : ℕ → EReal := fun b =>
  if h : b < 72 ∧ j < 73728 then
    FloatOps.sitofp (F := Ideal) FTy.f32 (a (ix2 ⟨b, h.1⟩ ⟨j, h.2⟩)) * s (ix2 ⟨b, h.1⟩ (⟨j / 256, by omega⟩ : Fin 288)) + o ix0
  else 0

end Cert.KernelIdeal.Own

end
-- ==== Proof.Host.lean ====
/- The kernel's windows in terms of the arguments: what the host operations before the launch leave in the buffers the kernel reads,
   and from that the result array as the two-sum form of the dequantised product. -/
module

public import proofs.«01_k».proof.Proof.Result
public import proofs.«01_k».proof.Proof.Level
public import Idealize.ShloMosaic.Lib.Pointwise
public import Idealize.ShloMosaic.Lib.StableHlo.Run

@[expose] public section

set_option maxRecDepth 16384

noncomputable section

namespace Cert.KernelIdeal.Own

open Cert.KernelIdeal.Gen
open Idealize.ShloMosaic Idealize.ShloMosaic.TcCoe Idealize.SL.Sem Idealize.ShloMosaic.StableHlo

variable (m : (ℓ : Loc nD τ sig) → Buf (Elt Ideal) ℓ)

/-- Dropping the middle axis of one element keeps the other two coordinates. -/
theorem squeeze_apply (x : Vec Ideal S256x1x4608 .bf16) (i : Fin 256) (k : Fin 4608) :
    shapeCast S256x4608 x shapeCasts_S256x1x4608_S256x4608 (ix2 i k) = x (ix3 i (0 : Fin 1) k) := by
  pointwise

/-- The activations as the kernel reads them: the argument without its middle axis. -/
theorem V_v5 (c : Dev nD) (i : Fin 256) (k : Fin 4608) :
    (V m c main_v5 : Vec Ideal S256x4608 .bf16) (ix2 i k) = (m (c, main_arg0) : Vec Ideal S256x1x4608 .bf16) (ix3 i (0 : Fin 1) k) := by
  have e : (V m c main_v5 : Vec Ideal S256x4608 .bf16)
      = shapeCast S256x4608 (m (c, main_arg0) : Vec Ideal S256x1x4608 .bf16) shapeCasts_S256x1x4608_S256x4608 := by
    unfold V
    after_results_simp
    rfl
  rw [e]
  exact squeeze_apply _ i k

/-- The table as the kernel reads it: level `r` in every lane of row `r`. -/
theorem V_v1 (c : Dev nD) (r : Fin 16) (l : Fin 128) :
    (V m c main_v1 : Vec Ideal S16x128 .bf16) (ix2 r l) = lev r.val := by
  have e : (V m c main_v1 : Vec Ideal S16x128 .bf16)
      = broadcastInDim S16x128 ![0, 1] bcast_S16x1_S16x128_0_1 (broadcastInDim S16x1 ![0] bcast_S16_S16x1_0
          (fun i => FloatOps.ofBits (F := Ideal) .bf16 (lit0 (S16.rowMajor i)))) := by
    unfold V
    after_results_simp
    rfl
  rw [e]
  pointwise
  have hr : S16.rowMajor (ix1 r) = r :=
    Fin.ext ((by decide +kernel : ∀ r : Fin 16, (S16.rowMajor (ix1 r)).val = r.val) r)
  rw [hr]
  unfold lev
  rw [dif_pos r.isLt]
  rfl

/-- The scales as the kernel reads them: group `t * 4 + q` of block `b`. -/
theorem V_v3 (c : Dev nD) (t b : Fin 72) (q : Fin 4) :
    (V m c main_v3 : Vec Ideal S72x72x4 .f32) (ix3 t b q)
      = (m (c, main_arg3) : Vec Ideal S72x288 .f32) (ix2 b (⟨t.val * 4 + q.val, by omega⟩ : Fin 288)) := by
  have e : (V m c main_v3 : Vec Ideal S72x72x4 .f32) = transpose S72x72x4 [1, 0, 2]
      (shapeCast S72x72x4 (m (c, main_arg3) : Vec Ideal S72x288 .f32) shapeCasts_S72x288_S72x72x4) transposes_S72x72x4_S72x72x4_1_0_2 := by
    unfold V
    after_results_simp
    rfl
  rw [e]
  pointwise

/-- The offset as the kernel reads it. -/
theorem V_v4 (c : Dev nD) : (V m c main_v4 : Vec Ideal S1 .f32) (ix1 (0 : Fin 1)) = (m (c, main_arg4) : Vec Ideal S_ .f32) ix0 := by
  have e : (V m c main_v4 : Vec Ideal S1 .f32) = shapeCast S1 (m (c, main_arg4) : Vec Ideal S_ .f32) shapeCasts_S_S1 := by
    unfold V
    after_results_simp
    rfl
  rw [e]
  pointwise

/-! ## The blocks of a grid point -/

/-- The blocks of the offset, the activations and the table are the whole arrays at every point. -/
theorem index0 : ∀ t : Fin cfg0.N, win0_0.index t 0 = 0 := by decide +kernel

@[inherit_doc index0]
theorem index1 : ∀ t : Fin cfg0.N, win0_1.index t 0 = 0 ∧ win0_1.index t 1 = 0 := by decide +kernel

@[inherit_doc index0]
theorem index2 : ∀ t : Fin cfg0.N, win0_2.index t 0 = 0 ∧ win0_2.index t 1 = 0 := by decide +kernel

section blocks
variable (c : Dev nD) (t : Fin cfg0.N)

/-- The activations' block is the whole array. -/
theorem blk1 (i k : ℕ) : XN (iblk m c 1 t) i k = xAt (m (c, main_arg0)) i k := by
  unfold XN xAt
  split
  · next h =>
    refine Eq.trans ?_ (V_v5 m c ⟨i, h.1⟩ ⟨k, h.2⟩)
    unfold iblk
    rw [View.read_apply]
    show V m c main_v5 _ = _
    congr 1
    funext a
    apply Fin.ext
    have h0 := index1 t
    match a with
    | ⟨0, _⟩ => show win0_1.index t 0 * 256 + 1 * i = i; omega
    | ⟨1, _⟩ => show win0_1.index t 1 * 4608 + 1 * k = k; omega
  · rfl

/-- The table's block holds the levels, in every lane. -/
theorem blk2 (r l : ℕ) (hr : r < 16) (hl : l < 128) : NL (iblk m c 2 t) r l = lev r := by
  unfold NL
  rw [dif_pos ⟨hr, hl⟩]
  refine Eq.trans ?_ (V_v1 m c ⟨r, hr⟩ ⟨l, hl⟩)
  unfold iblk
  rw [View.read_apply]
  show V m c main_v1 _ = _
  congr 1
  funext a
  apply Fin.ext
  have h0 := index2 t
  match a with
  | ⟨0, _⟩ => show win0_2.index t 0 * 16 + 1 * r = r; omega
  | ⟨1, _⟩ => show win0_2.index t 1 * 128 + 1 * l = l; omega

/-- The packed bytes' block is the tile's columns. -/
theorem blk3 (r j : ℕ) (hr : r < 2304) (hj : j < 1024) :
    WB (iblk m c 3 t) r j = wAt (m (c, main_arg1)) (t.val * 1024 + j) r := by
  have ht : t.val < 72 := t.isLt
  unfold WB wAt
  rw [dif_pos ⟨hr, hj⟩, dif_pos ⟨hr, by omega⟩]
  refine congrArg BitVec.toNat ?_
  unfold iblk
  rw [View.read_apply]
  show V m c main_arg1 _ = _
  rw [V_main_arg1]
  congr 1
  funext a
  apply Fin.ext
  have h0 := index3 t
  match a with
  | ⟨0, _⟩ => show win0_3.index t 0 * 2304 + 1 * r = r; omega
  | ⟨1, _⟩ => show win0_3.index t 1 * 1024 + 1 * j = t.val * 1024 + j; omega

/-- The absmax a tile computes is the operand's, at the tile's columns. -/
theorem blk045 (b j : ℕ) (hb : b < 72) (hj : j < 1024) :
    AM (iblk m c 0 t) (iblk m c 4 t) (iblk m c 5 t) b j
      = aAt (m (c, main_arg2)) (m (c, main_arg3)) (m (c, main_arg4)) (t.val * 1024 + j) b := by
  have ht : t.val < 72 := t.isLt
  unfold AM aAt
  rw [dif_pos ⟨hb, hj⟩, dif_pos ⟨hb, by omega⟩]
  refine congrArg₂ (· + ·) (congrArg₂ (· * ·) (congrArg (FloatOps.sitofp (F := Ideal) FTy.f32) ?_) ?_) ?_
  · unfold iblk
    rw [View.read_apply]
    show V m c main_arg2 _ = _
    rw [V_main_arg2]
    congr 1
    funext a
    apply Fin.ext
    have h0 := index4 t
    match a with
    | ⟨0, _⟩ => show win0_4.index t 0 * 72 + 1 * b = b; omega
    | ⟨1, _⟩ => show win0_4.index t 1 * 1024 + 1 * j = t.val * 1024 + j; omega
  · have hq : (t.val * 1024 + j) / 256 = t.val * 4 + j / 256 := by omega
    simp only [hq]
    refine Eq.trans ?_ (V_v3 m c ⟨t.val, ht⟩ ⟨b, hb⟩ ⟨j / 256, by omega⟩)
    unfold iblk
    rw [View.read_apply]
    show V m c main_v3 _ = _
    congr 1
    funext a
    apply Fin.ext
    have h0 := index5 t
    match a with
    | ⟨0, _⟩ => show win0_5.index t 0 * 1 + 1 * 0 = t.val; omega
    | ⟨1, _⟩ => show win0_5.index t 1 * 72 + 1 * b = b; omega
    | ⟨2, _⟩ => show win0_5.index t 2 * 4 + 1 * (j / 256) = j / 256; omega
  · refine Eq.trans ?_ (V_v4 m c)
    unfold iblk
    rw [View.read_apply]
    show V m c main_v4 _ = _
    congr 1
    funext a
    apply Fin.ext
    have h0 := index0 t
    match a with
    | ⟨0, _⟩ => show win0_0.index t 0 * 1 + 1 * 0 = 0; omega

end blocks

/-- The kernel's result at row `i` and column `j` is the dequantised product there. -/
theorem RES_spec (c : Dev nD) (z : S256x73728.Idx) :
    RES m c z = spec (xAt (m (c, main_arg0)) (z 0).val) (wAt (m (c, main_arg1)) (z 1).val)
      (aAt (m (c, main_arg2)) (m (c, main_arg3)) (m (c, main_arg4)) (z 1).val) := by
  have z0 : (z 0).val < 256 := (z 0).isLt
  have z1 : (z 1).val < 73728 := (z 1).isLt
  have ht : (z 1).val / 1024 < cfg0.N := by show (z 1).val / 1024 < 72; omega
  have hj : (z 1).val % 1024 < 1024 := by omega
  rw [RES_tile m c ⟨(z 1).val / 1024, ht⟩ z ⟨(z 0).val, z0⟩ ⟨(z 1).val % 1024, hj⟩ rfl (by show _ = (z 1).val / 1024 * 1024 + (z 1).val % 1024; omega)]
  rw [← sum_term]
  unfold POUT OUT
  refine Finset.sum_congr rfl fun k _ => ?_
  have hk := k.isLt
  show XN _ (z 0).val _ * wdF _ _ _ ((z 1).val % 1024 / 256) (k.val / 2) (k.val % 2) ((z 1).val % 1024 % 256) = _
  have e : (z 1).val / 1024 * 1024 + (z 1).val % 1024 = (z 1).val := by omega
  have e' : 256 * ((z 1).val % 1024 / 256) + (z 1).val % 1024 % 256 = (z 1).val % 1024 := by omega
  have hb : byteRow (k.val / 2) (k.val % 2) < 2304 := by unfold byteRow; omega
  have hW := blk3 m c ⟨(z 1).val / 1024, ht⟩ _ _ hb hj
  have hA := blk045 m c ⟨(z 1).val / 1024, ht⟩ (k.val / 2 / 32) _ (by omega) hj
  simp only [e] at hW hA
  unfold wdF nib term
  rw [blk1, e', hW, hA, blk2 m c _ _ _ ?_ (by omega)]
  split
  · have : wAt (m (c, main_arg1)) (z 1).val (byteRow (k.val / 2) (k.val % 2)) < 256 := by
      unfold wAt; split
      · exact BitVec.isLt _
      · omega
    omega
  · omega

end Cert.KernelIdeal.Own

end
-- ==== Proof.Reference.lean ====
/- The reference at an index: its selection tree is the table of levels, its weights the levels times the absmax, and its result the
   two-sum form of the dequantised product. -/
module

public import proofs.«01_k».proof.Proof.Gen.ReferenceIdeal.Run
public import proofs.«01_k».proof.Proof.Level
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem Idealize.ShloMosaic.StableHlo
open Cert.KernelIdeal.Own (lev spec xAt wAt aAt)

/-- Bit `k` of each code, as the reference tests it. -/
def bit (n : IVec S2304x73728 32) (k : BitVec 32) : IVec S2304x73728 1 :=
  cmpi .eq (andi (Host.shrsi n (broadcastInDim S2304x73728 ![] bcast_S_S2304x73728 (constantI S_ 32 k)))
    (broadcastInDim S2304x73728 ![] bcast_S_S2304x73728 (constantI S_ 32 1#32)))
    (broadcastInDim S2304x73728 ![] bcast_S_S2304x73728 (constantI S_ 32 1#32))

/-- One level everywhere. -/
def one (b : BitVec 16) : FVec Ideal S2304x73728 .bf16 :=
  broadcastInDim S2304x73728 ![] bcast_S_S2304x73728 (constant S_ .bf16 b)

/-- The selection tree over the four bits of each code. -/
def tree (n : IVec S2304x73728 32) : FVec Ideal S2304x73728 .bf16 :=
  select (bit n 3#32)
    (select (bit n 2#32)
      (select (bit n 1#32) (select (bit n 0#32) (one 0x3F80#16) (one 0x3F39#16)) (select (bit n 0#32) (one 0x3F10#16) (one 0x3EE2#16)))
      (select (bit n 1#32) (select (bit n 0#32) (one 0x3EAD#16) (one 0x3E7C#16)) (select (bit n 0#32) (one 0x3E25#16) (one 0x3DA3#16))))
    (select (bit n 2#32)
      (select (bit n 1#32) (select (bit n 0#32) (one 0x0000#16) (one 0xBDBA#16)) (select (bit n 0#32) (one 0xBE3D#16) (one 0xBE92#16)))
      (select (bit n 1#32) (select (bit n 0#32) (one 0xBECA#16) (one 0xBF06#16)) (select (bit n 0#32) (one 0xBF32#16) (one 0xBF80#16))))

/-- The dequantised weights of one nibble: the tree's levels, each block of 32 rows times its absmax. -/
def weights (g : FVec Ideal S2304x73728 .bf16) (a : FVec Ideal S72x73728 .bf16) : FVec Ideal S2304x73728 .bf16 :=
  shapeCast S2304x73728 (mulf (shapeCast S72x32x73728 g shapeCasts_S2304x73728_S72x32x73728)
    (broadcastInDim S72x32x73728 ![0, 1, 2] bcast_S72x1x73728_S72x32x73728_0_1_2
      (broadcastInDim S72x1x73728 ![0, 2] bcast_S72x73728_S72x1x73728_0_2 a))) shapeCasts_S72x32x73728_S2304x73728

/-- The two products of a weight array each, added: the even activations with the first, the odd ones with the second. -/
def dots (x : FVec Ideal S256x1x4608 .bf16) (h l : FVec Ideal S2304x73728 .bf16) : FVec Ideal S256x1x73728 .f32 :=
  addf (Host.dotGeneral dot_S256x1x2304_S2304x73728_S256x1x73728_2_0_01_1_n_n none
      (Host.slice S256x1x2304 ![0, 0, 0] ![1, 1, 2] x slicesBy_S256x1x4608_S256x1x2304_0s1_0s1_0s2) h)
    (Host.dotGeneral dot_S256x1x2304_S2304x73728_S256x1x73728_2_0_01_1_n_n none
      (Host.slice S256x1x2304 ![0, 0, 1] ![1, 1, 2] x slicesBy_S256x1x4608_S256x1x2304_0s1_0s1_1s2) l)

/-- The reference's sum, by those pieces. -/
theorem v109_eq (V0 : Valuation τ sig (Elt Ideal)) : res_main_v109 V0
    = dots (V0 (Proc.devRef .tc main_arg0)) (weights (tree (res_main_v14 V0)) (res_main_v9 V0))
        (weights (tree (res_main_v60 V0)) (res_main_v9 V0)) := rfl

/-- A bit test of a word, by an element. -/
def bitOf (w k : BitVec 32) : BitVec 1 := IntOp.cmpi CmpIPredicate.eq (IntOp.andi (IntOp.shrsi ArithUnit.host w k) 1#32) 1#32

/-- The tree over a word's four low bits, its leaves read by `f`. -/
def pick (f : BitVec 16 → EReal) (w : BitVec 32) : EReal :=
  Scalar.select (bitOf w 3#32)
      (Scalar.select (bitOf w 2#32)
        (Scalar.select (bitOf w 1#32) (Scalar.select (bitOf w 0#32) (f 0x3F80#16) (f 0x3F39#16)) (Scalar.select (bitOf w 0#32) (f 0x3F10#16) (f 0x3EE2#16)))
        (Scalar.select (bitOf w 1#32) (Scalar.select (bitOf w 0#32) (f 0x3EAD#16) (f 0x3E7C#16)) (Scalar.select (bitOf w 0#32) (f 0x3E25#16) (f 0x3DA3#16))))
      (Scalar.select (bitOf w 2#32)
        (Scalar.select (bitOf w 1#32) (Scalar.select (bitOf w 0#32) (f 0x0000#16) (f 0xBDBA#16)) (Scalar.select (bitOf w 0#32) (f 0xBE3D#16) (f 0xBE92#16)))
        (Scalar.select (bitOf w 1#32) (Scalar.select (bitOf w 0#32) (f 0xBECA#16) (f 0xBF06#16)) (Scalar.select (bitOf w 0#32) (f 0xBF32#16) (f 0xBF80#16))))

/-- The bit tests of a code's word are its binary digits. -/
theorem bitOf_eq : ∀ (q : Fin 16) (k : Fin 4), bitOf (BitVec.ofNat 32 q.val) (BitVec.ofNat 32 k.val)
    = if q.val / 2 ^ k.val % 2 = 1 then 1#1 else 0#1 := by decide +kernel

/-- The tree picks the table's entry that the code names, whatever reads the entries. -/
theorem pick_eq (f : BitVec 16 → EReal) (q : Fin 16) : pick f (BitVec.ofNat 32 q.val) = f (Cert.KernelIdeal.lit0 q) := by
  have h0 : bitOf (BitVec.ofNat 32 q.val) 0#32 = _ := bitOf_eq q 0
  have h1 : bitOf (BitVec.ofNat 32 q.val) 1#32 = _ := bitOf_eq q 1
  have h2 : bitOf (BitVec.ofNat 32 q.val) 2#32 = _ := bitOf_eq q 2
  have h3 : bitOf (BitVec.ofNat 32 q.val) 3#32 = _ := bitOf_eq q 3
  unfold pick
  rw [h0, h1, h2, h3]
  fin_cases q <;> rfl

/-- The tree at an index is the level its code names. -/
theorem tree_apply (n : IVec S2304x73728 32) (r : Fin 2304) (j : Fin 73728) (q : Fin 16) (h : n (ix2 r j) = BitVec.ofNat 32 q.val) :
    tree n (ix2 r j) = lev q.val := by
  have e : tree n (ix2 r j) = pick (FloatOps.ofBits (F := Ideal) .bf16) (n (ix2 r j)) := by
    pointwise [tree, bit]
    rfl
  rw [e, h, pick_eq]
  unfold lev
  rw [dif_pos q.isLt]

/-- The weights at an index: the level times the absmax of the row's block. -/
theorem weights_apply (g : FVec Ideal S2304x73728 .bf16) (a : FVec Ideal S72x73728 .bf16) (r : Fin 2304) (j : Fin 73728) :
    weights g a (ix2 r j) = g (ix2 r j) * a (ix2 (⟨r.val / 32, by omega⟩ : Fin 72) j) := by
  pointwise [weights]

/-- The two products at an index, each a sum over the packed rows. -/
theorem dots_apply (x : FVec Ideal S256x1x4608 .bf16) (h l : FVec Ideal S2304x73728 .bf16) (i : Fin 256) (j : Fin 73728) :
    (dots x h l (ix3 i (0 : Fin 1) j) : EReal)
      = (∑ r : Fin 2304, (x (ix3 i (0 : Fin 1) (⟨2 * r.val, by omega⟩ : Fin 4608)) : EReal) * h (ix2 r j))
        + ∑ r : Fin 2304, (x (ix3 i (0 : Fin 1) (⟨2 * r.val + 1, by omega⟩ : Fin 4608)) : EReal) * l (ix2 r j) := by
  pointwise [dots]
  simp only [Nat.add_comm 1]

/-- A code read as a 32-bit integer first names the same number. -/
theorem sitofp_ext (b : BitVec 8) :
    FloatOps.sitofp (F := Ideal) FTy.f32 (BitVec.signExtend 32 b) = FloatOps.sitofp (F := Ideal) FTy.f32 b := by
  show ((((BitVec.signExtend 32 b).toInt : ℤ) : ℝ) : EReal) = (((b.toInt : ℤ) : ℝ) : EReal)
  rw [(by revert b; decide +kernel : (BitVec.signExtend 32 b).toInt = b.toInt)]

/-- The reference's absmax at an index. -/
theorem v9_apply (V0 : Valuation τ sig (Elt Ideal)) (b : Fin 72) (j : Fin 73728) :
    (res_main_v9 V0 : FVec Ideal S72x73728 .bf16) (ix2 b j)
      = aAt (V0 (Proc.devRef .tc main_arg2)) (V0 (Proc.devRef .tc main_arg3)) (V0 (Proc.devRef .tc main_arg4)) j.val b.val := by
  unfold res_main_v9
  generalize V0 (Proc.devRef .tc main_arg2) = a
  generalize V0 (Proc.devRef .tc main_arg3) = s
  generalize V0 (Proc.devRef .tc main_arg4) = o
  change Vec Ideal S72x73728 .i8 at a
  change Vec Ideal S72x288 .f32 at s
  change Vec Ideal S_ .f32 at o
  pointwise
  unfold aAt
  rw [dif_pos ⟨b.isLt, j.isLt⟩, sitofp_ext]

/-- The high nibble's word. -/
theorem hi_word (b : BitVec 8) :
    IntOp.andi (IntOp.shrsi ArithUnit.host (BitVec.setWidth 32 b) 4#32) 15#32 = BitVec.ofNat 32 (b.toNat / 16) := by
  revert b; decide +kernel

/-- The low nibble's word. -/
theorem lo_word (b : BitVec 8) : IntOp.andi (BitVec.setWidth 32 b) 15#32 = BitVec.ofNat 32 (b.toNat % 16) := by
  revert b; decide +kernel

/-- The reference's high codes are the bytes' high nibbles. -/
theorem v14_apply (V0 : Valuation τ sig (Elt Ideal)) (r : Fin 2304) (j : Fin 73728) :
    (res_main_v14 V0 : IVec S2304x73728 32) (ix2 r j) = BitVec.ofNat 32 (wAt (V0 (Proc.devRef .tc main_arg1)) j.val r.val / 16) := by
  unfold res_main_v14 res_main_v10
  generalize V0 (Proc.devRef .tc main_arg1) = w
  change Vec Ideal S2304x73728 .i8 at w
  pointwise
  unfold wAt
  rw [dif_pos ⟨r.isLt, j.isLt⟩]
  exact hi_word _

/-- The reference's low codes are the bytes' low nibbles. -/
theorem v60_apply (V0 : Valuation τ sig (Elt Ideal)) (r : Fin 2304) (j : Fin 73728) :
    (res_main_v60 V0 : IVec S2304x73728 32) (ix2 r j) = BitVec.ofNat 32 (wAt (V0 (Proc.devRef .tc main_arg1)) j.val r.val % 16) := by
  unfold res_main_v60 res_main_v10
  generalize V0 (Proc.devRef .tc main_arg1) = w
  change Vec Ideal S2304x73728 .i8 at w
  pointwise
  unfold wAt
  rw [dif_pos ⟨r.isLt, j.isLt⟩]
  exact lo_word _

/-- A packed byte is below 256. -/
theorem wAt_lt (w : Vec Ideal S2304x73728 .i8) (j r : ℕ) : wAt w j r < 256 := by
  unfold wAt
  split
  · exact BitVec.isLt _
  · omega

/-- The result's rounding and its dropped middle axis change no element. -/
theorem res_apply (y : FVec Ideal S256x1x73728 .f32) (i : Fin 256) (j : Fin 73728) :
    (shapeCast S256x73728 (truncf .bf16 y bitsLt_bf16_f32) shapeCasts_S256x1x73728_S256x73728 : FVec Ideal S256x73728 .bf16) (ix2 i j)
      = y (ix3 i (0 : Fin 1) j) := by
  pointwise

/-- The reference's result at row `i` and column `j` is the dequantised product there. -/
theorem ref_spec (V0 : Valuation τ sig (Elt Ideal)) (i : Fin 256) (j : Fin 73728) :
    (shapeCast S256x73728 (truncf .bf16 (res_main_v109 V0) bitsLt_bf16_f32) shapeCasts_S256x1x73728_S256x73728
        : FVec Ideal S256x73728 .bf16) (ix2 i j)
      = spec (xAt (V0 (Proc.devRef .tc main_arg0)) i.val) (wAt (V0 (Proc.devRef .tc main_arg1)) j.val)
          (aAt (V0 (Proc.devRef .tc main_arg2)) (V0 (Proc.devRef .tc main_arg3)) (V0 (Proc.devRef .tc main_arg4)) j.val) := by
  refine (res_apply (res_main_v109 V0) i j).trans ?_
  rw [v109_eq]
  refine (dots_apply _ _ _ i j).trans ?_
  unfold spec
  refine congrArg₂ (· + ·) (Finset.sum_congr rfl fun r _ => ?_) (Finset.sum_congr rfl fun r _ => ?_)
  · have hx : xAt (V0 (Proc.devRef .tc main_arg0)) i.val (2 * r.val)
        = (V0 (Proc.devRef .tc main_arg0) : Vec Ideal S256x1x4608 .bf16) (ix3 i (0 : Fin 1) (⟨2 * r.val, by omega⟩ : Fin 4608)) := by
      unfold xAt; rw [dif_pos ⟨i.isLt, by omega⟩]
    have hw := wAt_lt (V0 (Proc.devRef .tc main_arg1)) j.val r.val
    rw [hx, weights_apply, v9_apply, tree_apply _ r j ⟨_, by omega⟩ (v14_apply V0 r j)]
  · have hx : xAt (V0 (Proc.devRef .tc main_arg0)) i.val (2 * r.val + 1)
        = (V0 (Proc.devRef .tc main_arg0) : Vec Ideal S256x1x4608 .bf16) (ix3 i (0 : Fin 1) (⟨2 * r.val + 1, by omega⟩ : Fin 4608)) := by
      unfold xAt; rw [dif_pos ⟨i.isLt, by omega⟩]
    have hw := wAt_lt (V0 (Proc.devRef .tc main_arg1)) j.val r.val
    rw [hx, weights_apply, v9_apply, tree_apply _ r j ⟨_, by omega⟩ (v60_apply V0 r j)]

end Cert.ReferenceIdeal.Own

end
-- ==== Proof.lean ====
/- The five claims of the certificate: the kernel, its idealization and the reference each run, change no argument and end with every
   semaphore at zero; the idealization keeps the kernel's meaning; and the idealized kernel and reference return the same array. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Host
public import proofs.«01_k».proof.Proof.Reference
public import Idealize.ShloMosaic.Adequacy
public import Idealize.ShloMosaic.Lib.Bf16PairInverse
public import Idealize.ShloMosaic.Init

@[expose] public section

noncomputable section

namespace Cert.Proof

open Idealize.ShloMosaic Idealize.SL.Sem

/-- The kernel as printed runs, keeps its arguments and ends quiescent. -/
theorem frame_p : Cert.quiescent_Kernel := fun m ρ _ => Cert.Kernel.Own.frame m ρ

/-- So does its idealization. -/
theorem frame_pi : Cert.quiescent_KernelIdeal := fun m ρ _ => Cert.KernelIdeal.Own.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization's ledger as its fourteen distinct statements, in order of first appearance. -/
theorem preserves : Cert.preserves_Kernel_KernelIdeal :=
  open Cert.KernelIdeal IdealRules.bf16_pair in
  ⟨bufferStatement S128x2x4608 S128x1x4608, bufferStatement S72x2x1024 S72x1x1024,
    bufferStatement S2304x2x256 S2304x1x256, statement S256x256 S128x256, statement S128x2x256 S128x1x256,
    halfStatement S72x256, statement S72x2x256 S72x1x256, statement S1x2x128 S1x1x128,
    statement S16x128 S8x128, statement S8x2x128 S8x1x128, statement S128x2x4608 S128x1x4608,
    statement S256x4608 S128x4608, statement S2304x2x256 S2304x1x256, statement S4608x256 S2304x256⟩

/-- The idealized kernel and the reference return the same array: each element is the dequantised product at its row and column. -/
theorem algebraic : Cert.algebraic_KernelIdeal_ReferenceIdeal := by
  intro m g m' g' _ hm
  refine ⟨fun c => Cert.KernelIdeal.Own.RES m c, Cert.KernelIdeal.Own.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4⟩ := hm c
  funext z
  refine Eq.trans (congrArg _ (eq_ix2 z)) ?_
  refine (Cert.ReferenceIdeal.Own.ref_spec _ (z 0) (z 1)).trans ?_
  refine Eq.trans ?_ (Cert.KernelIdeal.Own.RES_spec m c z).symm
  refine congr (congr (congrArg Cert.KernelIdeal.Own.spec ?_) ?_) ?_
  · exact congrArg (fun x => Cert.KernelIdeal.Own.xAt x (z 0).val) h0
  · exact congrArg (fun x => Cert.KernelIdeal.Own.wAt x (z 1).val) h1
  · exact congr (congr (congr (congrArg Cert.KernelIdeal.Own.aAt h2) h3) h4) rfl

theorem claim : Cert.Claim := ⟨Cert.Kernel.Gen.facts, Cert.KernelIdeal.Gen.facts, Cert.ReferenceIdeal.Gen.facts,
  frame_p, frame_pi, frame_ri, preserves, algebraic⟩

end Cert.Proof

end
